-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_in_range_and_finite [hPre_in_range_and_finite : Cert.Pre_in_range_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_and_finite [hPre_in_range_and_finite : Cert.Pre_in_range_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range_and_finite [hKernelIdeal : Cert.KernelIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range_and_finite [hReferenceIdeal : Cert.ReferenceIdeal.Facts] [hPre_in_range_and_finite : Cert.Pre_in_range_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_in_range_and_finite [hKernelIdeal : Cert.KernelIdeal.Facts] [hReferenceIdeal : Cert.ReferenceIdeal.Facts] [hPre_in_range_and_finite : Cert.Pre_in_range_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_and_finite : Cert.Pre_in_range_and_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_and_finite (hKernelIdeal := hKernelIdeal) (hPre_in_range_and_finite := hPre_in_range_and_finite)
    ∧ quiescent_ReferenceIdeal (hReferenceIdeal := hReferenceIdeal)
    ∧ quiescent_ReferenceIdeal_pre_in_range_and_finite (hReferenceIdeal := hReferenceIdeal) (hPre_in_range_and_finite := hPre_in_range_and_finite)
    ∧ preserves_Kernel_KernelIdeal
    ∧ algebraic_KernelIdeal_ReferenceIdeal_pre_in_range_and_finite (hKernelIdeal := hKernelIdeal) (hReferenceIdeal := hReferenceIdeal) (hPre_in_range_and_finite := hPre_in_range_and_finite)
-- ==== Pre_in_range.lean ====
abbrev S1024x51x1000 : Shape := ⟨3, ![1024, 51, 1000]⟩
abbrev S1024x51 : Shape := ⟨2, ![1024, 51]⟩
abbrev S_ : Shape := ⟨0, ![]⟩

class Facts : Prop where
  bcast_S_S1024x51 : S_.BroadcastsInDim S1024x51 (![] : Fin 0 → Fin S1024x51.rank)

variable [Facts]

def fn {F : FTy → Type} [FloatOps F] (main_arg0 : FVec F S1024x51x1000 .f32) (main_arg1 : IVec S1024x51 32) (main_arg2 : FVec F S1024x51 .f32) : IVec S1024x51 1 :=
  let main_c : IVec S_ 32 := constantI S_ 32 0#32
  let main_v0 : IVec S1024x51 32 := broadcastInDim S1024x51 ![] bcast_S_S1024x51 main_c
  let main_v1 : IVec S1024x51 1 := cmpi .sge main_arg1 main_v0
  let main_c_0 : IVec S_ 32 := constantI S_ 32 1000#32
  let main_v2 : IVec S1024x51 32 := broadcastInDim S1024x51 ![] bcast_S_S1024x51 main_c_0
  let main_v3 : IVec S1024x51 1 := cmpi .slt main_arg1 main_v2
  let main_v4 : IVec S1024x51 1 := andi main_v1 main_v3
  main_v4
-- ==== Pre_in_range_and_finite.lean ====
abbrev S1024x51x1000 : Shape := ⟨3, ![1024, 51, 1000]⟩
abbrev S1024x51 : Shape := ⟨2, ![1024, 51]⟩
abbrev S_ : Shape := ⟨0, ![]⟩
abbrev S1024x51x1 : Shape := ⟨3, ![1024, 51, 1]⟩

class Facts : Prop where
  bcast_S_S1024x51 : S_.BroadcastsInDim S1024x51 (![] : Fin 0 → Fin S1024x51.rank)
  bcast_S_S1024x51x1000 : S_.BroadcastsInDim S1024x51x1000 (![] : Fin 0 → Fin S1024x51x1000.rank)
  bcast_S1024x51_S1024x51x1_0_1 : S1024x51.BroadcastsInDim S1024x51x1 (![0, 1] : Fin 2 → Fin S1024x51x1.rank)
  bcast_S1024x51x1_S1024x51x1000_0_1_2 : S1024x51x1.BroadcastsInDim S1024x51x1000 (![0, 1, 2] : Fin 3 → Fin S1024x51x1000.rank)

variable [Facts]

def fn {F : FTy → Type} [FloatOps F] (main_arg0 : FVec F S1024x51x1000 .f32) (main_arg1 : IVec S1024x51 32) (main_arg2 : FVec F S1024x51 .f32) : IVec S1024x51x1000 1 :=
  let main_c : IVec S_ 32 := constantI S_ 32 0#32
  let main_v0 : IVec S1024x51 32 := broadcastInDim S1024x51 ![] bcast_S_S1024x51 main_c
  let main_v1 : IVec S1024x51 1 := cmpi .sge main_arg1 main_v0
  let main_c_0 : IVec S_ 32 := constantI S_ 32 1000#32
  let main_v2 : IVec S1024x51 32 := broadcastInDim S1024x51 ![] bcast_S_S1024x51 main_c_0
  let main_v3 : IVec S1024x51 1 := cmpi .slt main_arg1 main_v2
  let main_v4 : IVec S1024x51 1 := andi main_v1 main_v3
  let main_v5 : FVec F S1024x51 .f32 := Host.absf main_arg2
  let main_cst : FVec F S_ .f32 := constant S_ .f32 0x7F800000#32
  let main_v6 : FVec F S1024x51 .f32 := broadcastInDim S1024x51 ![] bcast_S_S1024x51 main_cst
  let main_v7 : IVec S1024x51 1 := cmpf .olt main_v5 main_v6
  let main_v8 : IVec S1024x51 1 := andi main_v4 main_v7
  let main_v9 : FVec F S1024x51x1000 .f32 := Host.absf main_arg0
  let main_cst_1 : FVec F S_ .f32 := constant S_ .f32 0x7F800000#32
  let main_v10 : FVec F S1024x51x1000 .f32 := broadcastInDim S1024x51x1000 ![] bcast_S_S1024x51x1000 main_cst_1
  let main_v11 : IVec S1024x51x1000 1 := cmpf .olt main_v9 main_v10
  let main_v12 : IVec S1024x51x1 1 := broadcastInDim S1024x51x1 ![0, 1] bcast_S1024x51_S1024x51x1_0_1 main_v8
  let main_v13 : IVec S1024x51x1000 1 := broadcastInDim S1024x51x1000 ![0, 1, 2] bcast_S1024x51x1_S1024x51x1000_0_1_2 main_v12
  let main_v14 : IVec S1024x51x1000 1 := andi main_v11 main_v13
  main_v14
-- ==== Kernel.lean ====
abbrev S1024x51x1000 : Shape := ⟨3, ![1024, 51, 1000]⟩
abbrev S1024x51 : Shape := ⟨2, ![1024, 51]⟩
abbrev S52224000 : Shape := ⟨1, ![52224000]⟩
abbrev S52224 : Shape := ⟨1, ![52224]⟩
abbrev S32x2x16 : Shape := ⟨3, ![32, 2, 16]⟩
abbrev S1632 : Shape := ⟨1, ![1632]⟩
abbrev S2x16 : Shape := ⟨2, ![2, 16]⟩
abbrev S_ : Shape := ⟨0, ![]⟩
abbrev S16 : Shape := ⟨1, ![16]⟩
abbrev S1x16 : Shape := ⟨2, ![1, 16]⟩
abbrev S1x2x16 : Shape := ⟨3, ![1, 2, 16]⟩
abbrev S1x1 : Shape := ⟨2, ![1, 1]⟩
abbrev S32x1x16 : Shape := ⟨3, ![32, 1, 16]⟩
abbrev S32x16 : Shape := ⟨2, ![32, 16]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 9
  | .local .tc .vmem => 2
  | .local .scVector .vmem => 5
  | _ => 0

abbrev bufTy : (tb : Table) → Fin (nBuf tb) → BufTy
  | .hbm, ⟨0, _⟩ => ⟨S1024x51x1000, .f32⟩
  | .hbm, ⟨1, _⟩ => ⟨S1024x51, .i32⟩
  | .hbm, ⟨2, _⟩ => ⟨S1024x51, .f32⟩
  | .hbm, ⟨3, _⟩ => ⟨S52224000, .f32⟩
  | .hbm, ⟨4, _⟩ => ⟨S52224, .i32⟩
  | .hbm, ⟨5, _⟩ => ⟨S52224, .f32⟩
  | .hbm, ⟨6, _⟩ => ⟨S32x2x16, .f32⟩
  | .hbm, ⟨7, _⟩ => ⟨S1x1, .f32⟩
  | .hbm, ⟨8, _⟩ => ⟨S_, .f32⟩
  | .local .tc .vmem, ⟨0, _⟩ => ⟨S32x2x16, .f32⟩
  | .local .tc .vmem, ⟨1, _⟩ => ⟨S1x1, .f32⟩
  | .local .scVector .vmem, ⟨0, _⟩ => ⟨S1632, .i32⟩
  | .local .scVector .vmem, ⟨1, _⟩ => ⟨S1632, .f32⟩
  | .local .scVector .vmem, ⟨2, _⟩ => ⟨S1632, .i32⟩
  | .local .scVector .vmem, ⟨3, _⟩ => ⟨S1632, .f32⟩
  | .local .scVector .vmem, ⟨4, _⟩ => ⟨S2x16, .f32⟩
  | _, _ => ⟨S1024x51x1000, .f32⟩

abbrev bufScoped : (cs : CoreSpace) → Fin (nBuf (.local .tc cs)) → Bool
  | .vmem, ⟨0, _⟩ => true
  | .vmem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 4
abbrev cc1_sem1_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1632_i32 : BitVec 32 := 1632#32
  let v2 : BitVec 32 := Scalar.muli v1 c1632_i32
  ![v2.toNat]
@[reducible] def k0_t1_loop : Scf.Loop 32 :=
  let c0_i32_0 : BitVec 32 := 0#32
  let c102_i32 : BitVec 32 := 102#32
  let v3 : BitVec 32 := Scalar.addi c0_i32_0 c102_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg12 : BitVec 32 := Scf.iv c0_i32_0 c1_i32 k0_t1
  let c16_i32 : BitVec 32 := 16#32
  let v17 : BitVec 32 := Scalar.muli arg12 c16_i32
  let v18 : Index := Scalar.indexCast v17
  ![v18.toNat]
@[reducible] def k0_t2_loop : Scf.Loop 32 :=
  let c0_i32_4 : BitVec 32 := 0#32
  let c102_i32_5 : BitVec 32 := 102#32
  let v7 : BitVec 32 := Scalar.addi c0_i32_4 c102_i32_5
  let c1_i32_6 : BitVec 32 := 1#32
  ⟨c0_i32_4, v7, c1_i32_6⟩
def k0_off3 (k0_t2 : Fin k0_t2_loop.trips) : Fin 1 → Nat :=
  let c0_i32_4 : BitVec 32 := 0#32
  let c1_i32_6 : BitVec 32 := 1#32
  let arg12 : BitVec 32 := Scf.iv c0_i32_4 c1_i32_6 k0_t2
  let c16_i32 : BitVec 32 := 16#32
  let v17 : BitVec 32 := Scalar.muli arg12 c16_i32
  let v18 : Index := Scalar.indexCast v17
  ![v18.toNat]
def k0_off4 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r2 : BitVec 32 := 0#32
  let c0_i32_12_r2 : BitVec 32 := 0#32
  ![v1.toNat, 0, 0]
abbrev grid1 : Pipeline.Grid := .none

abbrev stage1_0 : Fin 1 → Memref sig .tc .vmem S32x2x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x51x1000 : Shape := ⟨3, ![1024, 51, 1000]⟩
abbrev S1024x51 : Shape := ⟨2, ![1024, 51]⟩
abbrev S52224x1000 : Shape := ⟨2, ![52224, 1000]⟩
abbrev S52224x1 : Shape := ⟨2, ![52224, 1]⟩
abbrev S_ : Shape := ⟨0, ![]⟩
abbrev S52224x1x1 : Shape := ⟨3, ![52224, 1, 1]⟩
abbrev S1 : Shape := ⟨1, ![1]⟩
abbrev S1x1x1 : Shape := ⟨3, ![1, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S1024x51x1000, .f32⟩
  | .hbm, ⟨1, _⟩ => ⟨S1024x51, .i32⟩
  | .hbm, ⟨2, _⟩ => ⟨S1024x51, .f32⟩
  | .hbm, ⟨3, _⟩ => ⟨S52224x1000, .f32⟩
  | .hbm, ⟨4, _⟩ => ⟨S52224x1, .i32⟩
  | .hbm, ⟨5, _⟩ => ⟨S52224x1, .f32⟩
  | .hbm, ⟨6, _⟩ => ⟨S_, .i32⟩
  | .hbm, ⟨7, _⟩ => ⟨S52224x1, .i32⟩
  | .hbm, ⟨8, _⟩ => ⟨S52224x1, .i1⟩
  | .hbm, ⟨9, _⟩ => ⟨S_, .i32⟩
  | .hbm, ⟨10, _⟩ => ⟨S52224x1, .i32⟩
  | .hbm, ⟨11, _⟩ => ⟨S52224x1, .i32⟩
  | .hbm, ⟨12, _⟩ => ⟨S52224x1, .i32⟩
  | .hbm, ⟨13, _⟩ => ⟨S52224x1x1, .i32⟩
  | .hbm, ⟨14, _⟩ => ⟨S1, .i32⟩
  | .hbm, ⟨15, _⟩ => ⟨S_, .i32⟩
  | .hbm, ⟨16, _⟩ => ⟨S52224x1x1, .i32⟩
  | .hbm, ⟨17, _⟩ => ⟨S52224x1x1, .i1⟩
  | .hbm, ⟨18, _⟩ => ⟨S1x1x1, .i32⟩
  | .hbm, ⟨19, _⟩ => ⟨S52224x1x1, .i32⟩
  | .hbm, ⟨20, _⟩ => ⟨S52224x1x1, .i1⟩
  | .hbm, ⟨21, _⟩ => ⟨S52224x1x1, .i1⟩
  | .hbm, ⟨22, _⟩ => ⟨S_, .i1⟩
  | .hbm, ⟨23, _⟩ => ⟨S52224x1, .i1⟩
  | .hbm, ⟨24, _⟩ => ⟨S52224x1, .f32⟩
  | .hbm, ⟨25, _⟩ => ⟨S_, .f32⟩
  | .hbm, ⟨26, _⟩ => ⟨S52224x1, .f32⟩
  | .hbm, ⟨27, _⟩ => ⟨S52224x1, .f32⟩
  | .hbm, ⟨28, _⟩ => ⟨S_, .f32⟩
  | .hbm, ⟨29, _⟩ => ⟨S52224x1, .f32⟩
  | .hbm, ⟨30, _⟩ => ⟨S52224x1, .f32⟩
  | .hbm, ⟨31, _⟩ => ⟨S52224x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | _, _ => ⟨S1024x51x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩

abbrev nD : Nat := 1
abbrev τ : Topo := Topo.v7x

variable {F : FTy → Type} [FloatOps F]
-- ==== Proof.KernelIdealSetup.lean ====
/-
  The program's set-up for the proof: the launch as the SparseCore launch theorem reads it, the ghost algebra (the launch
  handshakes' rounds, the TensorCore pipeline's rounds, the local copies' counters), the buffers, the values every tile
  computes, and the blocks of the flat arrays the tiles work on.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

/-- The labels of the program below the SparseCore call: the kernel bodies' and the one TensorCore pipeline's. -/
abbrev ΛP : Labels := Pipeline.Sig Λ₀ (Fin 1) fun p => (pcfgs (F := F) p).Adm
/-- The SparseCore side of the launch: one call, on every tile. -/
abbrev K : SparseCore.Cfg τ sig (ΛP (F := F)) 1 := sc (F := F)
/-- The call runs on sixteen tiles of each SparseCore. -/
theorem nSub_zero : (K (F := F)).nSub 0 = 16 := rfl
/-- The call runs on both SparseCores. -/
theorem nCore_zero : (K (F := F)).nCore 0 = 2 := rfl
/-- The definitions below the SparseCore call. -/
abbrev D [FloatOps F] : Defs nD τ sig (Elt F) (ΛP (F := F)) := Pipeline.defs pcfgs defs₀
/-- The kernel bodies need no variant. -/
abbrev 𝒱₀ : Variants := Variants.none
/-- The variants with the pipeline's trips. -/
abbrev 𝒱 : Variants := 𝒱₀.lift
/-- The call's variant. -/
abbrev v₀ : 𝒱.V := Sum.inl none

/-- The launch's handshake cells are distinct and unscoped, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

/-- The launch handshakes' rounds. -/
abbrev UH : Type := URounds (GSem nD τ sig) ℕ
/-- The handshakes' rounds, the pipeline's rounds and the local copies' counters. -/
abbrev UU : Type := UH × (UR sig nD τ × Counters)

local notation "𝕄" => MT nD τ sig (HIx 1) (Elt F) ℕ UU ℕ

/-- The handshakes' rounds in the program logic's algebra. -/
abbrev EH : Emb UH (MT nD τ sig (HIx 1) (Elt F) ℕ UU ℕ) := embL
/-- The pipeline's rounds in the program logic's algebra. -/
abbrev EP : Emb (UR sig nD τ) (MT nD τ sig (HIx 1) (Elt F) ℕ UU ℕ) :=
  (Emb.inl : Emb (UR sig nD τ) (UR sig nD τ × Counters)).trans embR

instance EP_landsIn : (EP : Emb (UR sig nD τ) 𝕄).LandsIn (upEmb : UEmb _ 𝕄) := by unfold EP; infer_instance

/-! ## The buffers -/

/-- The flat data on device `d`. -/
abbrev xLoc (d : Dev nD) : Loc nD τ sig := (SparseCore.T d).loc main_v0
/-- The flat targets on device `d`. -/
abbrev tLoc (d : Dev nD) : Loc nD τ sig := (SparseCore.T d).loc main_v1
/-- The flat mask on device `d`. -/
abbrev mLoc (d : Dev nD) : Loc nD τ sig := (SparseCore.T d).loc main_v2
/-- The tiles' partial sums on device `d`. -/
abbrev oLoc (d : Dev nD) : Loc nD τ sig := (SparseCore.T d).loc main_v3

/-! ## The values -/

/-- Position `p` of the flat arrays, counted round at their length. -/
def pos (p : ℕ) : S52224.Idx := fun a => ⟨p % 52224, (Nat.mod_lt _ (by decide)).trans_eq (by revert a; decide)⟩
/-- Position `p` of the flat data, counted round at its length. -/
def xpos (p : ℕ) : S52224000.Idx := fun a => ⟨p % 52224000, (Nat.mod_lt _ (by decide)).trans_eq (by revert a; decide)⟩
/-- Position `p` of a tile's scratch, counted round at its length. -/
def spos (p : ℕ) : S1632.Idx := fun a => ⟨p % 1632, (Nat.mod_lt _ (by decide)).trans_eq (by revert a; decide)⟩

/-- The word the kernel computes as the address of position `p`'s datum: a thousand times `p`, plus `p`'s target. -/
def adr (t : IVec S52224 32) (p : ℕ) : BitVec 32 := BitVec.ofNat 32 p * 1000#32 + t (pos p)

/-- The datum position `p`'s target picks. -/
def picked (x : FVec F S52224000 .f32) (t : IVec S52224 32) (p : ℕ) : F .f32 := x (xpos (adr t p).toNat)

/-- Group `n` of worker `w`'s sixteen picked data. -/
def pickedAt (x : FVec F S52224000 .f32) (t : IVec S52224 32) (w n : ℕ) : FVec F S16 .f32 :=
  fun l => picked x t (1632 * w + 16 * n + (l 0).val)

/-- Group `n` of worker `w`'s sixteen mask words. -/
def maskAt (k : FVec F S52224 .f32) (w n : ℕ) : FVec F S16 .f32 :=
  fun l => k (pos (1632 * w + 16 * n + (l 0).val))

variable [FloatOps F]

/-- Worker `w`'s sixteen running sums of picked data times mask, after `n` groups. -/
def accP (x : FVec F S52224000 .f32) (t : IVec S52224 32) (k : FVec F S52224 .f32) (w : ℕ) : ℕ → FVec F S16 .f32
  | 0 => k0_pay2
  | n + 1 => k0_pay4 (accP x t k w n) (pickedAt x t w n) (maskAt k w n)

/-- Worker `w`'s sixteen running sums of the mask, after `n` groups. -/
def accM (k : FVec F S52224 .f32) (w : ℕ) : ℕ → FVec F S16 .f32
  | 0 => k0_pay2
  | n + 1 => k0_pay5 (accM k w n) (maskAt k w n)

/-- The lane `l` of a sixteen-word vector. -/
def lane (l : ℕ) : S16.Idx := fun a => ⟨l % 16, (Nat.mod_lt _ (by decide)).trans_eq (by revert a; decide)⟩

/-- What the tiles leave: worker `w`'s sums of picked data times mask in row 0 of block `w`, its sums of the mask in
    row 1. -/
def partials (x : FVec F S52224000 .f32) (t : IVec S52224 32) (k : FVec F S52224 .f32) : FVec F S32x2x16 .f32 :=
  fun i => if (i 1).val = 0 then accP x t k (i 0).val 102 (lane (i 2).val) else accM k (i 0).val 102 (lane (i 2).val)

/-- What the proof asks of the flat targets: each is a column of its row of a thousand. -/
def Targets (t : IVec S52224 32) : Prop := ∀ j, (t j).toNat < 1000

omit [FloatOps F] in
/-- Under `Targets` the kernel's address arithmetic does not wrap. -/
theorem adr_toNat {t : IVec S52224 32} (ht : Targets t) {p : ℕ} (hp : p < 52224) :
    (adr t p).toNat = 1000 * p + (t (pos p)).toNat := by
  have h := ht (pos p)
  unfold adr
  rw [BitVec.toNat_add, BitVec.toNat_mul, BitVec.toNat_ofNat]
  simp only [BitVec.toNat_ofNat]
  omega

omit [FloatOps F] in
/-- Under `Targets` every address is inside the flat data. -/
theorem adr_lt {t : IVec S52224 32} (ht : Targets t) {p : ℕ} (hp : p < 52224) : (adr t p).toNat < 52224000 := by
  have h := ht (pos p)
  rw [adr_toNat ht hp]; omega

/-! ## The blocks -/

local notation "tV" => (Memref.whole Cert.KernelIdeal.main_v1_scv : Memref Cert.KernelIdeal.sig Kind.scVector Space.hbm Cert.KernelIdeal.S52224 EltTy.i32)
local notation "mV" => (Memref.whole Cert.KernelIdeal.main_v2_scv : Memref Cert.KernelIdeal.sig Kind.scVector Space.hbm Cert.KernelIdeal.S52224 EltTy.f32)
local notation "oV" => (Memref.whole Cert.KernelIdeal.main_v3_scv : Memref Cert.KernelIdeal.sig Kind.scVector Space.hbm Cert.KernelIdeal.S32x2x16 EltTy.f32)

theorem tdiv : 32 ∣ S52224.size 0 := ⟨1632, rfl⟩
theorem odiv : 32 ∣ S32x2x16.size 0 := ⟨1, rfl⟩
/-- Block `w` of a flat array: 1632 words. -/
abbrev trow (w : Fin 32) : Rect S52224 := Rect.part (s := S52224) (a₀ := 0) tdiv w
/-- Block `w` of the partial sums. -/
abbrev orow (w : Fin 32) : Rect S32x2x16 := Rect.part (s := S32x2x16) (a₀ := 0) odiv w
/-- The elements of block `w` of the flat targets. -/
abbrev tRowSet (w : Fin 32) : Finset S52224.Idx := ((tV).view.slice (trow w)).set
/-- The elements of block `w` of the flat mask. -/
abbrev mRowSet (w : Fin 32) : Finset S52224.Idx := ((mV).view.slice (trow w)).set
/-- The elements of block `w` of the partial sums. -/
abbrev oRowSet (w : Fin 32) : Finset S32x2x16.Idx := ((oV).view.slice (orow w)).set
/-- Worker `w`'s share of the flat data: one of 32 pieces. -/
abbrev xq (w : Fin 32) : PosShare TreeShare := pieceOf fullShare 32 (by decide) w

/-- Worker `w`'s block of the flat targets. -/
abbrev tRowPts (d : Dev nD) (w : Fin 32) (t : IVec S52224 32) : sProp 𝕄 := tLoc d ↦[tRowSet w]{fullShare} (t : Buf (Elt F) (tLoc d))
/-- Worker `w`'s block of the flat mask. -/
abbrev mRowPts (d : Dev nD) (w : Fin 32) (k : FVec F S52224 .f32) : sProp 𝕄 := mLoc d ↦[mRowSet w]{fullShare} (k : Buf (Elt F) (mLoc d))
/-- Worker `w`'s share of the flat data. -/
abbrev xShPts (d : Dev nD) (w : Fin 32) (x : FVec F S52224000 .f32) : sProp 𝕄 := xLoc d ↦{xq w} (x : Buf (Elt F) (xLoc d))
/-- Worker `w`'s block of the partial sums. -/
abbrev oRowPts (d : Dev nD) (w : Fin 32) (o : FVec F S32x2x16 .f32) : sProp 𝕄 := oLoc d ↦[oRowSet w]{fullShare} (o : Buf (Elt F) (oLoc d))

end Cert.KernelIdeal.Run

end
-- ==== Proof.KernelIdealTileVals.lean ====
/-
  One tile's own buffers, semaphores and blocks, and the values its task reads, computes and gathers.
-/
module

public import proofs.«01_k».proof.Proof.KernelIdealSetup

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S52224000 EltTy.f32)
local notation "tV" => (Memref.whole Cert.KernelIdeal.main_v1_scv : Memref Cert.KernelIdeal.sig Kind.scVector Space.hbm Cert.KernelIdeal.S52224 EltTy.i32)
local notation "mV" => (Memref.whole Cert.KernelIdeal.main_v2_scv : Memref Cert.KernelIdeal.sig Kind.scVector Space.hbm Cert.KernelIdeal.S52224 EltTy.f32)
local notation "oV" => (Memref.whole Cert.KernelIdeal.main_v3_scv : Memref Cert.KernelIdeal.sig Kind.scVector Space.hbm Cert.KernelIdeal.S32x2x16 EltTy.f32)
local notation "aV" => (Memref.whole Cert.KernelIdeal.cc0_scratch0 : Memref Cert.KernelIdeal.sig Kind.scVector Space.vmem Cert.KernelIdeal.S1632 EltTy.i32)
local notation "bV" => (Memref.whole Cert.KernelIdeal.cc0_scratch1 : Memref Cert.KernelIdeal.sig Kind.scVector Space.vmem Cert.KernelIdeal.S1632 EltTy.f32)
local notation "iV" => (Memref.whole Cert.KernelIdeal.cc0_scratch2 : Memref Cert.KernelIdeal.sig Kind.scVector Space.vmem Cert.KernelIdeal.S1632 EltTy.i32)
local notation "gV" => (Memref.whole Cert.KernelIdeal.cc0_scratch3 : Memref Cert.KernelIdeal.sig Kind.scVector Space.vmem Cert.KernelIdeal.S1632 EltTy.f32)
local notation "sV" => (Memref.whole Cert.KernelIdeal.cc0_scratch4 : Memref Cert.KernelIdeal.sig Kind.scVector Space.vmem Cert.KernelIdeal.S2x16 EltTy.f32)

variable (d : Dev nD) (L : grid0.Coords)

/-- The task's SparseCore. -/
abbrev cV (L : grid0.Coords) : Fin τ.nSC := (L 0).castLE hcore0
/-- The task's tile. -/
abbrev jV (L : grid0.Coords) : Fin τ.nSub := (L 1).castLE hsub0
/-- The task's worker number: twice its tile, plus its SparseCore. -/
def wL (L : grid0.Coords) : Fin 32 := ⟨2 * (L 1).val + (L 0).val, by
  have h0 : (L 0).val < 2 := (L 0).isLt
  have h1 : (L 1).val < 16 := (L 1).isLt
  omega⟩

/-- The block of a flat array the task addresses. -/
abbrev trowK (L : grid0.Coords) : Rect S52224 := Rect.unit (s := S52224) (k0_off1 L) S1632.size (k0_off1_inb L)
/-- The block of the partial sums the task addresses. -/
abbrev orowK (L : grid0.Coords) : Rect S32x2x16 := Rect.unit (s := S32x2x16) (k0_off4 L) S1x2x16.size (k0_off4_inb L)
/-- The task's targets. -/
abbrev tRowK (L : grid0.Coords) : Memref sig .scVector .hbm S1632 .i32 := (tV).slice (trowK L) (fun _ => rfl)
/-- The task's mask words. -/
abbrev mRowK (L : grid0.Coords) : Memref sig .scVector .hbm S1632 .f32 := (mV).slice (trowK L) (fun _ => rfl)
/-- The task's block of the partial sums, as two rows of sixteen. -/
abbrev oRowK (L : grid0.Coords) : Memref sig .scVector .hbm S2x16 .f32 := ((oV).slice (orowK L) (fun _ => rfl)).squeeze S2x16 squeezes_S1x2x16_S2x16
/-- All of the flat data. -/
abbrev xAllK : Memref sig .scVector .hbm S52224000 .f32 := (xV).slice (Rect.unit (s := S52224000) ![0] S52224000.size inb_S52224000_S52224000_0) (fun _ => rfl)

/-- The block of a flat array is the worker's. -/
theorem trowK_eq : trowK L = trow (wL L) := by
  unfold trowK trow Rect.part Rect.block
  congr 1 <;> funext a
  · rw [k0_off1_eq]
    match a with
    | 0 => simp [Shape.partIx, Shape.partSize, wL]; omega
  · match a with
    | 0 => simp [Shape.partSize]
/-- The block of the partial sums is the worker's. -/
theorem orowK_eq : orowK L = orow (wL L) := by
  unfold orowK orow Rect.part Rect.block
  congr 1 <;> funext a
  · rw [k0_off4_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]

theorem set_tRowK : (tRowK L).view.set = tRowSet (wL L) := by
  show ((tV).view.slice (trowK L)).set = ((tV).view.slice (trow (wL L))).set
  exact trowK_eq L ▸ rfl
theorem set_mRowK : (mRowK L).view.set = mRowSet (wL L) := by
  show ((mV).view.slice (trowK L)).set = ((mV).view.slice (trow (wL L))).set
  exact trowK_eq L ▸ rfl
theorem set_oRowK : (oRowK L).view.set = oRowSet (wL L) := by
  show (((oV).view.slice (orowK L)).reshape S2x16 squeezes_S1x2x16_S2x16.numel_eq).set = ((oV).view.slice (orow (wL L))).set
  rw [View.set_reshape]
  exact orowK_eq L ▸ rfl

/-- The task addresses its block of the flat targets. -/
theorem pts_tRowK (f : Buf (Elt F) (tLoc d)) :
    ((tRowK L).view.loc (V d (cV L) (jV L)) ↦[(tRowK L).view.set]{fullShare} f : sProp 𝕄) = tLoc d ↦[tRowSet (wL L)]{fullShare} f := by
  rw [set_tRowK]
/-- The task addresses its block of the flat mask. -/
theorem pts_mRowK (f : Buf (Elt F) (mLoc d)) :
    ((mRowK L).view.loc (V d (cV L) (jV L)) ↦[(mRowK L).view.set]{fullShare} f : sProp 𝕄) = mLoc d ↦[mRowSet (wL L)]{fullShare} f := by
  rw [set_mRowK]
/-- The task addresses its block of the partial sums. -/
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]

/-- The tile's copy semaphores. -/
abbrev cell (s : DmaSem sig) (d : Dev nD) (L : grid0.Coords) : GSem nD τ sig := (V d (cV L) (jV L), .dma s)

theorem cell_ne {s s' : DmaSem sig} (h : s ≠ s') : cell s d L ≠ cell s' d L := fun e =>
  h (SemLoc.dma.inj (congrArg Prod.snd e))

theorem cell_mem {s : DmaSem sig} (h : (SemLoc.dma s : SemLoc sig).isScoped .scVector = true) : cell s d L ∈ ownCells (V d (cV L) (jV L)) :=
  (mem_ownCells (g := cell s d L)).mpr ⟨rfl, h⟩

/-- The four copy semaphores are among the tile's own. -/
theorem ownSems0_V :
    (ownSems0 (V d (cV L) (jV L)) : sProp 𝕄)
      = iprop(semVal (cell cc0_scoped0.sem d L) 0 ∗ semVal (cell cc0_scoped1.sem d L) 0 ∗ semVal (cell cc0_scratch5.sem d L) 0 ∗ semVal (cell cc0_scoped2.sem d L) 0
          ∗ bigSep (((((ownCells (V d (cV L) (jV L))).erase (cell cc0_scoped0.sem d L)).erase (cell cc0_scoped1.sem d L)).erase (cell cc0_scratch5.sem d L)).erase
              (cell cc0_scoped2.sem d L)) fun g => semVal g 0) := by
  unfold SparseCore.Cfg.ownSems0
  rw [SparseCore.bigSep_erase' (cell_mem d L (s := cc0_scoped0.sem) (by decide)),
    SparseCore.bigSep_erase' (Finset.mem_erase.mpr ⟨cell_ne d L (by decide), cell_mem d L (s := cc0_scoped1.sem) (by decide)⟩),
    SparseCore.bigSep_erase' (Finset.mem_erase.mpr ⟨cell_ne d L (by decide), Finset.mem_erase.mpr ⟨cell_ne d L (by decide),
      cell_mem d L (s := cc0_scratch5.sem) (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L (s := cc0_scoped2.sem) (by decide)⟩⟩⟩)]

/-- The tile's own buffer of a scratch's name. -/
abbrev own (r : Ref sig .scVector) (L : grid0.Coords) : DevRef τ sig := (Proc.scVector (cV L) (jV L)).devRef r

theorem own_ne {r r' : Ref sig .scVector} (h : r ≠ r') : own r L ≠ own r' L := fun e => absurd (Proc.devRef_injective _ e) h

/-- The five scratch buffers are among the tile's own. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f)
          ∗ bigSep ((((((ownRefs (τ := τ) (.scVector (cV L) (jV L))).erase (own cc0_scratch0 L)).erase (own cc0_scratch1 L)).erase (own cc0_scratch2 L)).erase
              (own cc0_scratch3 L)).erase (own cc0_scratch4 L))
              fun b => iprop(∃ f, ((d, b) : Loc nD τ sig) ↦{fullShare} f)) := by
  have hm (r : Ref sig .scVector) (h : (own r L).owner = Owner.proc (.scVector (cV L) (jV L)) := by rfl) := SparseCore.Cfg.mem_ownRefs_of_owner (p := Proc.scVector (cV L) (jV L)) (b := own r L) h
  unfold SparseCore.Cfg.ownBufs
  refine (SparseCore.bigSep_erase' (hm cc0_scratch0)).trans ?_
  rw [SparseCore.bigSep_erase' (Finset.mem_erase.mpr ⟨own_ne L (by decide), hm cc0_scratch1⟩),
    SparseCore.bigSep_erase' (Finset.mem_erase.mpr ⟨own_ne L (by decide), Finset.mem_erase.mpr ⟨own_ne L (by decide), hm cc0_scratch2⟩⟩),
    SparseCore.bigSep_erase' (Finset.mem_erase.mpr ⟨own_ne L (by decide), Finset.mem_erase.mpr ⟨own_ne L (by decide),
      Finset.mem_erase.mpr ⟨own_ne L (by decide), hm cc0_scratch3⟩⟩⟩),
    SparseCore.bigSep_erase' (Finset.mem_erase.mpr ⟨own_ne L (by decide), Finset.mem_erase.mpr ⟨own_ne L (by decide),
      Finset.mem_erase.mpr ⟨own_ne L (by decide), Finset.mem_erase.mpr ⟨own_ne L (by decide), hm cc0_scratch4⟩⟩⟩⟩)]

/-! ## The values -/

/-- The targets a task fetches. -/
def tOf (t : IVec S52224 32) (w : ℕ) : IVec S1632 32 := fun j => t (pos (1632 * w + (j 0).val))
/-- The mask words a task fetches. -/
def mOf (k : FVec F S52224 .f32) (w : ℕ) : FVec F S1632 .f32 := fun j => k (pos (1632 * w + (j 0).val))
/-- The addresses a task computes. -/
def aOf (t : IVec S52224 32) (w : ℕ) : IVec S1632 32 := fun j => adr t (1632 * w + (j 0).val)
/-- The data a task gathers. -/
def gOf (x : FVec F S52224000 .f32) (t : IVec S52224 32) (w : ℕ) : FVec F S1632 .f32 := fun j => picked x t (1632 * w + (j 0).val)

theorem pos_val {p : ℕ} (hp : p < 52224) : ((pos p) 0).val = p := Nat.mod_eq_of_lt hp

theorem idx1_ext {n : ℕ} {j j' : (⟨1, ![n]⟩ : Shape).Idx} (h : (j 0).val = (j' 0).val) : j = j' :=
  funext fun a => match a with | 0 => Fin.ext h

theorem tRow_emb (j : S1632.Idx) : (trowK L).emb j = pos (1632 * (wL L).val + (j 0).val) := by
  have h0 : (L 0).val < 2 := (L 0).isLt
  have h1 : (L 1).val < 16 := (L 1).isLt
  have hj : (j 0).val < 1632 := (j 0).isLt
  refine idx1_ext ?_
  rw [pos_val (by simp only [wL]; omega)]
  have : ((trowK L).emb j 0).val = (k0_off1 L) 0 + 1 * (j 0).val := rfl
  rw [this, k0_off1_eq]
  simp [wL]; omega

/-- What the first copy fetches. -/
theorem tRow_read (t : IVec S52224 32) : (tRowK L).view.read (Elt F) (t : Buf (Elt F) (tLoc d)) = tOf t (wL L) := by
  funext j
  exact congrArg t (tRow_emb L j)
/-- What the second copy fetches. -/
theorem mRow_read (k : FVec F S52224 .f32) : (mRowK L).view.read (Elt F) (k : Buf (Elt F) (mLoc d)) = mOf k (wL L) := by
  funext j
  exact congrArg k (tRow_emb L j)

theorem trips1 : Scf.trips k0_t1_loop.lb k0_t1_loop.ub k0_t1_loop.st = 102 := by decide +kernel
theorem trips2 : Scf.trips k0_t2_loop.lb k0_t2_loop.ub k0_t2_loop.st = 102 := by decide +kernel

theorem wpos_lt (w : Fin 32) (j : S1632.Idx) : 1632 * w.val + (j 0).val < 52224 := by
  have hj : (j 0).val < 1632 := (j 0).isLt
  have := w.isLt
  omega

/-- Every address a task computes is inside the flat data. -/
theorem adr_inb {t : IVec S52224 32} (ht : Targets t) (y : S1632.Idx) : ((iV).view.read (Elt F) (aOf t (wL L)) y).toNat < 52224000 :=
  adr_lt ht (wpos_lt _ y)

/-- Element `l` of group `n` of a tile's scratch. -/
theorem grp_emb (n : Fin k0_t1_loop.trips) (l : S16.Idx) :
    (Rect.unit (s := S1632) (k0_off2 n) S16.size (k0_off2_inb n)).emb l 0 = ⟨16 * n.val + (l 0).val, by
      have hn : n.val < 102 := lt_of_lt_of_eq n.isLt trips1
      have hl : (l 0).val < 16 := (l 0).isLt
      show _ < 1632
      omega⟩ := by
  refine Fin.ext ?_
  have : ((Rect.unit (s := S1632) (k0_off2 n) S16.size (k0_off2_inb n)).emb l 0).val = (k0_off2 n) 0 + 1 * (l 0).val := rfl
  rw [this, k0_off2_eq]
  simp

/-- The lane arithmetic of the address loop. -/
theorem pay1_lane (n : Fin k0_t1_loop.trips) (v : IVec S16 32) (l : S16.Idx) :
    k0_pay1 (F := F) L n v l = BitVec.ofNat 32 (1632 * (wL L).val + (16 * n.val + (l 0).val)) * 1000#32 + v l := by
  unfold k0_pay1
  simp only [shapeCast_self]
  rw [show ∀ (a b : IVec S16 32), addi a b l = a l + b l from fun _ _ => rfl, show ∀ (a b : IVec S16 32), muli a b l = a l * b l from fun _ _ => rfl,
    show ∀ (a b : IVec S16 32), addi a b l = a l + b l from fun _ _ => rfl, iota_single_apply]
  show ((BitVec.ofNat 32 (L 1).val * 2#32 + BitVec.ofNat 32 (L 0).val) * 1632#32 + (0#32 + BitVec.ofNat 32 n.val * 1#32) * 16#32 + BitVec.ofNat 32 (l 0).val) * 1000#32 + v l = _
  congr 2
  simp only [wL, BitVec.ofNat_add, BitVec.ofNat_mul, BitVec.zero_add, BitVec.mul_one]
  rw [BitVec.mul_comm (BitVec.ofNat 32 (L 1).val), BitVec.mul_comm _ (1632#32), BitVec.mul_comm (BitVec.ofNat 32 n.val), BitVec.add_assoc]

/-- One trip of the address loop writes one more group of addresses. -/
theorem adr_step (t : IVec S52224 32) (n : Fin k0_t1_loop.trips) (f : (iV : Memref sig .scVector .vmem S1632 .i32).view.ty.Contents (Elt F))
    (hf : ∀ j : S1632.Idx, (j 0).val < 16 * n.val → f j = aOf t (wL L) j) (j : S1632.Idx) (hj : (j 0).val < 16 * (n.val + 1)) :
    (iV : Memref sig .scVector .vmem S1632 .i32).view.read (Elt F) ((iV : Memref sig .scVector .vmem S1632 .i32).view.writes (Elt F) f [⟨Rect.unit (s := S1632) (k0_off2 n) S16.size (k0_off2_inb n),
        k0_pay1 (F := F) L n ((aV : Memref sig .scVector .vmem S1632 .i32).view.readAt (Elt F) (Rect.unit (s := S1632) (k0_off2 n) S16.size (k0_off2_inb n)).toLoadRect (tOf t (wL L)))⟩]) j
      = aOf t (wL L) j := by
  have hn : n.val < 102 := lt_of_lt_of_eq n.isLt trips1
  by_cases hlt : (j 0).val < 16 * n.val
  · rw [View.read_writes_cons_miss_of_axis _ _ _ _ _ (0 : Fin 1) (16 * n.val) 16 (by show (k0_off2 n) 0 = _; rw [k0_off2_eq]; rfl) rfl rfl (.inl hlt)]
    exact hf j hlt
  · have hl : (j 0).val - 16 * n.val < 16 := by omega
    rw [View.read_writes_cons_hit_of_coords _ _ _ _ _ (lane ((j 0).val - 16 * n.val)) j (fun a => by
      match a with
      | 0 =>
        show (j 0).val = (k0_off2 n) 0 + 1 * (((j 0).val - 16 * n.val) % 16)
        rw [k0_off2_eq, Nat.mod_eq_of_lt hl]
        simp; omega)]
    rw [pay1_lane]
    have e : 16 * n.val + ((lane ((j 0).val - 16 * n.val)) 0).val = (j 0).val := by
      show 16 * n.val + ((j 0).val - 16 * n.val) % 16 = _
      rw [Nat.mod_eq_of_lt hl]; omega
    rw [e]
    show _ + t (pos _) = _ + t (pos _)
    have e2 : ((Rect.unit (s := S1632) (k0_off2 n) S16.size (k0_off2_inb n)).emb (lane ((j 0).val - 16 * n.val)) 0).val = (j 0).val := by
      rw [grp_emb]; exact e
    exact congrArg (fun q => BitVec.ofNat 32 (1632 * (wL L).val + (j 0).val) * 1000#32 + t (pos (1632 * (wL L).val + q))) e2

variable [FloatOps F]

omit [FloatOps F] in
/-- The row a list of indices names at position `j` is the index there. -/
theorem rows_val {n z : ℕ} (idx : (⟨1, ![n]⟩ : Shape).Idx → Elt F .i32) (hn : (⟨1, ![n]⟩ : Shape).numel = n) (h : ∀ i, (idx i).toNat < z)
    (j : (⟨1, ![n]⟩ : Shape).Idx) : (SparseCore.rows idx hn h (j 0)).val = (idx j).toNat := by
  have e : (⟨1, ![n]⟩ : Shape).rowMajor.symm (Fin.cast hn.symm (j 0)) = j := by
    rw [Equiv.symm_apply_eq]; exact Fin.ext (Shape.rowMajor_val_one j).symm
  exact congrArg (fun i => (idx i).toNat) e

omit [FloatOps F] in
/-- All of the flat data, read, is the flat data. -/
theorem xAll_read (x : FVec F S52224000 .f32) (i : S52224000.Idx) : xAllK.view.read (Elt F) x i = x i := by
  rw [View.read_apply]
  refine congrArg x (idx1_ext ?_)
  show 0 + 1 * (i 0).val = _
  omega

omit [FloatOps F] in
/-- The gather's payload at one element. -/
theorem gather_at (x : FVec F S52224000 .f32) (r : Fin 1632 → Fin 52224000) (j : S1632.Idx) (p : ℕ) (hp : (r (j 0)).val = p) :
    SparseCore.gatherPayload gathers_S52224000_S1632 (xAllK.view.read (Elt F) x) r j = x (xpos p) := by
  unfold SparseCore.gatherPayload
  rw [xAll_read]
  refine congrArg x (idx1_ext ?_)
  refine (congrArg Fin.val (Shape.Gathers.idx_axis gathers_S52224000_S1632 r j)).trans (hp.trans ?_)
  exact (Nat.mod_eq_of_lt (hp ▸ (r (j 0)).isLt)).symm

omit [FloatOps F] in
/-- A write of the whole gather buffer leaves what is written. -/
theorem writes_whole_g (f : (gV : Memref sig .scVector .vmem S1632 .f32).view.ty.Contents (Elt F)) (p : S1632.Idx → Elt F .f32) :
    (gV : Memref sig .scVector .vmem S1632 .f32).view.writes (Elt F) f [⟨Rect.whole S1632, p⟩] = p := by
  have hr : ∀ g, (gV : Memref sig .scVector .vmem S1632 .f32).view.read (Elt F) g = g := fun _ => rfl
  exact (hr _).symm.trans (View.read_writes_whole (Val := Elt F) (gV : Memref sig .scVector .vmem S1632 .f32).view f p)

/-- What the gather leaves is the picked data. -/
theorem gathered (x : FVec F S52224000 .f32) (t : IVec S52224 32) (ht : Targets t)
    (hin : ∀ y, ((iV : Memref sig .scVector .vmem S1632 .i32).view.read (Elt F) (aOf t (wL L)) y).toNat < 52224000) :
    (gV : Memref sig .scVector .vmem S1632 .f32).view.writes (Elt F) ((gV : Memref sig .scVector .vmem S1632 .f32).view.junk) [⟨Rect.whole S1632,
      SparseCore.gatherPayload gathers_S52224000_S1632 (xAllK.view.read (Elt F) x)
        (SparseCore.rows ((iV : Memref sig .scVector .vmem S1632 .i32).view.read (Elt F) (aOf t (wL L))) rfl hin)⟩]
      = gOf x t (wL L) := by
  rw [writes_whole_g]
  funext j
  exact gather_at x _ j _ (rows_val (n := 1632) ((iV : Memref sig .scVector .vmem S1632 .i32).view.read (Elt F) (aOf t (wL L))) rfl hin j)

end Cert.KernelIdeal.Run

end
-- ==== Proof.KernelIdealTile.lean ====
/-
  One tile's task: it fetches its 1632 targets and its 1632 mask words, computes its 1632 addresses sixteen at a time,
  gathers the data at those addresses, sums data times mask and mask in sixteen lanes each, and writes the two rows of
  sums to its block.
-/
module

public import proofs.«01_k».proof.Proof.KernelIdealTileVals

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S52224000 EltTy.f32)
local notation "tV" => (Memref.whole Cert.KernelIdeal.main_v1_scv : Memref Cert.KernelIdeal.sig Kind.scVector Space.hbm Cert.KernelIdeal.S52224 EltTy.i32)
local notation "mV" => (Memref.whole Cert.KernelIdeal.main_v2_scv : Memref Cert.KernelIdeal.sig Kind.scVector Space.hbm Cert.KernelIdeal.S52224 EltTy.f32)
local notation "oV" => (Memref.whole Cert.KernelIdeal.main_v3_scv : Memref Cert.KernelIdeal.sig Kind.scVector Space.hbm Cert.KernelIdeal.S32x2x16 EltTy.f32)
local notation "aV" => (Memref.whole Cert.KernelIdeal.cc0_scratch0 : Memref Cert.KernelIdeal.sig Kind.scVector Space.vmem Cert.KernelIdeal.S1632 EltTy.i32)
local notation "bV" => (Memref.whole Cert.KernelIdeal.cc0_scratch1 : Memref Cert.KernelIdeal.sig Kind.scVector Space.vmem Cert.KernelIdeal.S1632 EltTy.f32)
local notation "iV" => (Memref.whole Cert.KernelIdeal.cc0_scratch2 : Memref Cert.KernelIdeal.sig Kind.scVector Space.vmem Cert.KernelIdeal.S1632 EltTy.i32)
local notation "gV" => (Memref.whole Cert.KernelIdeal.cc0_scratch3 : Memref Cert.KernelIdeal.sig Kind.scVector Space.vmem Cert.KernelIdeal.S1632 EltTy.f32)
local notation "sV" => (Memref.whole Cert.KernelIdeal.cc0_scratch4 : Memref Cert.KernelIdeal.sig Kind.scVector Space.vmem Cert.KernelIdeal.S2x16 EltTy.f32)

variable (d : Dev nD) (L : grid0.Coords)

variable [FloatOps F]

/-- Before trip `n` of the address loop: the targets in place, the first `n` groups of addresses written. -/
def inv1 (t : IVec S52224 32) (n : ℕ) (_ : PUnit) : sProp 𝕄 :=
  iprop(((aV).view.loc (V d (cV L) (jV L)) ↦{fullShare} tOf t (wL L))
    ∗ ∃ f : Buf (Elt F) ((iV).view.loc (V d (cV L) (jV L))), ⌜∀ j : S1632.Idx, (j 0).val < 16 * n → f j = aOf t (wL L) j⌝
      ∗ ((iV).view.loc (V d (cV L) (jV L)) ↦{fullShare} f))

/-- Before trip `n` of the summing loop: the data and the mask words in place, the carried sums those of the first `n`
    groups. -/
def inv2 (x : FVec F S52224000 .f32) (t : IVec S52224 32) (k : FVec F S52224 .f32) (n : ℕ) (acc : FVec F S16 .f32 × FVec F S16 .f32) : sProp 𝕄 :=
  iprop(⌜acc = (accP x t k (wL L) n, accM k (wL L) n)⌝
    ∗ ((gV).view.loc (V d (cV L) (jV L)) ↦{fullShare} gOf x t (wL L))
    ∗ ((bV).view.loc (V d (cV L) (jV L)) ↦{fullShare} mOf k (wL L)))

/-- Group `n` of the gathered data, as the summing loop loads it. -/
theorem gOf_group (x : FVec F S52224000 .f32) (t : IVec S52224 32) (n : Fin k0_t2_loop.trips) :
    (gV : Memref sig .scVector .vmem S1632 .f32).view.readAt (Elt F) (Rect.unit (s := S1632) (k0_off3 n) S16.size (k0_off3_inb n)).toLoadRect (gOf x t (wL L))
      = pickedAt x t (wL L) n.val := by
  funext l
  refine congrArg (picked x t) (?_ : 1632 * (wL L).val + ((k0_off3 n) 0 + 1 * (l 0).val) = 1632 * (wL L).val + 16 * n.val + (l 0).val)
  have e : (k0_off3 n) 0 = 16 * n.val := by rw [k0_off3_eq]; rfl
  rw [e]
  show 1632 * (wL L).val + (16 * n.val + 1 * (l 0).val) = _
  omega

/-- Group `n` of the mask words, as the summing loop loads it. -/
theorem mOf_group (k : FVec F S52224 .f32) (n : Fin k0_t2_loop.trips) :
    (bV : Memref sig .scVector .vmem S1632 .f32).view.readAt (Elt F) (Rect.unit (s := S1632) (k0_off3 n) S16.size (k0_off3_inb n)).toLoadRect (mOf k (wL L))
      = maskAt k (wL L) n.val := by
  funext l
  refine congrArg (fun q => k (pos q)) (?_ : 1632 * (wL L).val + ((k0_off3 n) 0 + 1 * (l 0).val) = 1632 * (wL L).val + 16 * n.val + (l 0).val)
  have e : (k0_off3 n) 0 = 16 * n.val := by rw [k0_off3_eq]; rfl
  rw [e]
  show 1632 * (wL L).val + (16 * n.val + 1 * (l 0).val) = _
  omega

/-- Sixteen sums as one row. -/
theorem row_lane (v : FVec F S16 .f32) (j : S1x16.Idx) (h : S16.ShapeCasts S1x16) : shapeCast S1x16 v h j = v (lane (j 1).val) := by
  refine shapeCast_apply v h j (lane (j 1).val) ?_
  have h0 : (j 0).val < 1 := (j 0).isLt
  have h1 : (j 1).val < 16 := (j 1).isLt
  refine (Shape.rowMajor_val_one _).trans (Eq.trans ?_ (Shape.rowMajor_val_two j).symm)
  show (j 1).val % 16 = (j 0).val * 16 + (j 1).val
  omega

/-- The two rows of sums as the task stores them. -/
abbrev sumRows (a b : FVec F S16 .f32) : List (View.Piece (Elt F) S2x16 .f32) :=
  [⟨Rect.unit (s := S2x16) ![1, 0] S1x16.size inb_S2x16_S1x16_1_0, k0_pay7 b⟩,
    ⟨Rect.unit (s := S2x16) ![0, 0] S1x16.size inb_S2x16_S1x16_0_0, k0_pay6 a⟩]

/-- The two rows read back. -/
theorem sumRows_read (a b : FVec F S16 .f32) (fs : (sV : Memref sig .scVector .vmem S2x16 .f32).view.ty.Contents (Elt F)) (y : S2x16.Idx) :
    (sV : Memref sig .scVector .vmem S2x16 .f32).view.read (Elt F) ((sV : Memref sig .scVector .vmem S2x16 .f32).view.writes (Elt F) fs (sumRows a b)) y
      = if (y 0).val = 0 then a (lane (y 1).val) else b (lane (y 1).val) := by
  have h0 : (y 0).val < 2 := (y 0).isLt
  by_cases hy : (y 0).val = 0
  · rw [if_pos hy]
    rw [View.read_writes_cons_miss_of_axis _ _ _ _ _ (0 : Fin 2) 1 1 rfl rfl rfl (.inl (by show (y 0).val < 1; omega)),
      View.read_writes_cons_hit_of_coords _ _ _ _ _ (show S1x16.Idx from fun c => match c with | 0 => (0 : Fin 1) | 1 => (y 1 : Fin 16)) y (fun c => by
        match c with
        | 0 => exact hy
        | 1 => show (y 1).val = 0 + 1 * (y 1).val; omega)]
    exact row_lane a _ _
  · rw [if_neg hy]
    rw [View.read_writes_cons_hit_of_coords _ _ _ _ _ (show S1x16.Idx from fun c => match c with | 0 => (0 : Fin 1) | 1 => (y 1 : Fin 16)) y (fun c => by
        match c with
        | 0 => show (y 0).val = 1 + 1 * 0; omega
        | 1 => show (y 1).val = 0 + 1 * (y 1).val; omega)]
    exact row_lane b _ _

/-- The partial sums read through the task's block. -/
theorem partials_read (x : FVec F S52224000 .f32) (t : IVec S52224 32) (k : FVec F S52224 .f32) (y : S2x16.Idx) :
    (oRowK L).view.read (Elt F) (partials x t k) y
      = if (y 0).val = 0 then accP x t k (wL L) 102 (lane (y 1).val) else accM k (wL L) 102 (lane (y 1).val) := by
  have hc : S1x2x16.ShapeCasts S2x16 := squeezes_S1x2x16_S2x16.numel_eq
  have e : (oRowK L).view.read (Elt F) (partials x t k) = shapeCast S2x16 ((oV : Memref sig .scVector .hbm S32x2x16 .f32).view.readAt (Elt F) (orowK L).toLoadRect (partials x t k)) hc :=
    Memref.read_squeeze_slice (Val := Elt F) (oV : Memref sig .scVector .hbm S32x2x16 .f32) (orowK L) (fun _ => rfl) squeezes_S1x2x16_S2x16 hc _
  let z : S1x2x16.Idx := fun c => match c with | 0 => (0 : Fin 1) | 1 => (y 0 : Fin 2) | 2 => (y 1 : Fin 16)
  rw [e, shapeCast_apply (s := S1x2x16) _ hc y z (by
    refine (Shape.rowMajor_val_three _).trans (Eq.trans ?_ (Shape.rowMajor_val_two y).symm)
    show (0 * 2 + (y 0).val) * 16 + (y 1).val = (y 0).val * 16 + (y 1).val
    omega)]
  have e0 : (k0_off4 L) 0 = (wL L).val := by rw [k0_off4_eq]; rfl
  have e1 : (k0_off4 L) 1 = 0 := by rw [k0_off4_eq]; rfl
  have e2 : (k0_off4 L) 2 = 0 := by rw [k0_off4_eq]; rfl
  have c0 : (k0_off4 L) 0 + 1 * 0 = (wL L).val := by omega
  have c1 : (k0_off4 L) 1 + 1 * (y 0).val = (y 0).val := by omega
  have c2 : (k0_off4 L) 2 + 1 * (y 1).val = (y 1).val := by omega
  have g : ∀ a b c a' b' c' : ℕ, a = a' → b = b' → c = c' →
      (if b = 0 then accP x t k a 102 (lane c) else accM k a 102 (lane c)) = if b' = 0 then accP x t k a' 102 (lane c') else accM k a' 102 (lane c') := by
    rintro _ _ _ _ _ _ rfl rfl rfl; rfl
  exact g _ _ _ _ _ _ c0 c1 c2

/-- What the last copy leaves in the task's block. -/
theorem sums_written (x : FVec F S52224000 .f32) (t : IVec S52224 32) (k : FVec F S52224 .f32) (o : FVec F S32x2x16 .f32)
    (fs : (sV : Memref sig .scVector .vmem S2x16 .f32).view.ty.Contents (Elt F)) (n : ℕ) (hn : n = 102) (i : S32x2x16.Idx) (hi : i ∈ (oRowK L).view.set) :
    (oRowK L).view.writes (Elt F) o [⟨Rect.whole S2x16, (sV : Memref sig .scVector .vmem S2x16 .f32).view.read (Elt F)
      ((sV : Memref sig .scVector .vmem S2x16 .f32).view.writes (Elt F) fs (sumRows (accP x t k (wL L) n) (accM k (wL L) n)))⟩] i = partials x t k i := by
  subst hn
  obtain ⟨y, -, rfl⟩ := Finset.mem_map.mp hi
  have h := congrFun (View.read_writes_whole (Val := Elt F) (oRowK L).view o ((sV : Memref sig .scVector .vmem S2x16 .f32).view.read (Elt F)
      ((sV : Memref sig .scVector .vmem S2x16 .f32).view.writes (Elt F) fs (sumRows (accP x t k (wL L) 102) (accM k (wL L) 102))))) y
  rw [sumRows_read] at h
  exact h.trans (partials_read L x t k y).symm

set_option maxHeartbeats 4000000 in
/-- One tile's task from its blocks of the targets, mask and partial sums and its share of the data: everything comes
    back, the partial sums' block at `partials`, with no wait left but the task's own. -/
theorem tile_body (x : FVec F S52224000 .f32) (t : IVec S52224 32) (k : FVec F S52224 .f32) (o : FVec F S32x2x16 .f32) (ht : Targets t)
    (hF : (K (F := F)).Facts) (O : CellTallies nD τ sig (HIx 1)) (W : Waits sig (HIx 1)) (hO : ∀ g, O g none = 0) :
    iprop(levAts (K (F := F)).L (K (F := F)).lev ∗ emp
        ∗ (tRowPts d (wL L) t ∗ mRowPts d (wL L) k ∗ xShPts d (wL L) x ∗ oRowPts d (wL L) o)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) tV (Memref.isWhole_whole _) mV (Memref.isWhole_whole _) oV (Memref.isWhole_whole _)
            aV (Memref.isWhole_whole _) bV (Memref.isWhole_whole _) iV (Memref.isWhole_whole _) gV (Memref.isWhole_whole _) sV (Memref.isWhole_whole _)
            cc0_scratch5 cc0_scoped0 cc0_scoped1 cc0_scoped2)
          fun _ => iprop((tRowPts d (wL L) t ∗ mRowPts d (wL L) k ∗ xShPts d (wL L) x ∗ oRowPts d (wL L) (partials x t k))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_body_eq_skeleton]; unfold cc0__sc_body_skel
  simp only [k0_part1_eq_skeleton]; unfold k0_part1_skel
  simp only [Prog.bind_assoc]
  rw [(K (F := F)).scopedBufs_V hF d (cV L) (jV L), SparseCore.Cfg.scopedSems0_V (Val := Elt F) d (cV L) (jV L), ownSems0_V, ownBufs_V]
  iintro ⟨#Hlv, -, ⟨Ht, Hm, Hx, Ho⟩, ⟨⟨%fa, Ha⟩, ⟨%fb, Hb⟩, ⟨%fi, Hi⟩, ⟨%fg, Hg⟩, ⟨%fs, Hs⟩, Hbufs⟩, ⟨HsemA, HsemB, HsemG, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (Entails.of_eq (pts_tRowK (F := F) d L _).symm) $$ Ht
  ihave Hm' := (Entails.of_eq (pts_mRowK (F := F) d L _).symm) $$ Hm
  ihave Ho' := (Entails.of_eq (pts_oRowK (F := F) d L _).symm) $$ Ho
  ihave Hx' := (show xShPts d (wL L) x ⊢ ((xV).view.loc (V d (cV L) (jV L)) ↦{xq (wL L)} x : sProp 𝕄) from Entails.of_eq rfl) $$ Hx
  ihave Ha' := (show ((V d (cV L) (jV L)).loc cc0_scratch0 ↦{fullShare} fa : sProp 𝕄) ⊢ ((aV).view.loc (V d (cV L) (jV L)) ↦{fullShare} fa) from Entails.of_eq rfl) $$ Ha
  ihave Hb' := (show ((V d (cV L) (jV L)).loc cc0_scratch1 ↦{fullShare} fb : sProp 𝕄) ⊢ ((bV).view.loc (V d (cV L) (jV L)) ↦{fullShare} fb) from Entails.of_eq rfl) $$ Hb
  ihave Hi' := (show ((V d (cV L) (jV L)).loc cc0_scratch2 ↦{fullShare} fi : sProp 𝕄) ⊢ ((iV).view.loc (V d (cV L) (jV L)) ↦{fullShare} fi) from Entails.of_eq rfl) $$ Hi
  ihave Hg' := (show ((V d (cV L) (jV L)).loc cc0_scratch3 ↦{fullShare} fg : sProp 𝕄) ⊢ ((gV).view.loc (V d (cV L) (jV L)) ↦{fullShare} fg) from Entails.of_eq rfl) $$ Hg
  ihave Hs' := (show ((V d (cV L) (jV L)).loc cc0_scratch4 ↦{fullShare} fs : sProp 𝕄) ⊢ ((sV).view.loc (V d (cV L) (jV L)) ↦{fullShare} fs) from Entails.of_eq rfl) $$ Hs
  sl_exec
  ihave Ha2 := (Entails.of_eq (show ((aV).view.loc (V d (cV L) (jV L)) ↦{fullShare} View.write (Elt F) (aV).view fa (tile_body.sl.dma0 L t) Finset.univ : sProp 𝕄)
      = (aV).view.loc (V d (cV L) (jV L)) ↦{fullShare} tOf t (wL L) from by
        rw [View.write_whole_univ]; exact congrArg (fun f : Buf (Elt F) ((aV).view.loc (V d (cV L) (jV L))) => ((aV).view.loc (V d (cV L) (jV L)) ↦{fullShare} f : sProp 𝕄)) (tRow_read L t))) $$ Ha'
  ihave Hb2 := (Entails.of_eq (show ((bV).view.loc (V d (cV L) (jV L)) ↦{fullShare} View.write (Elt F) (bV).view fb (tile_body.sl.dma0_1 L k) Finset.univ : sProp 𝕄)
      = (bV).view.loc (V d (cV L) (jV L)) ↦{fullShare} mOf k (wL L) from by
        rw [View.write_whole_univ]; exact congrArg (fun f : Buf (Elt F) ((bV).view.loc (V d (cV L) (jV L))) => ((bV).view.loc (V d (cV L) (jV L)) ↦{fullShare} f : sProp 𝕄)) (mRow_read L k))) $$ Hb'
  sl_for (inv1 d L t) $$ [Ha2 Hi']
  case region =>
    intro n _
    unfold inv1
    iintro ⟨Ha, %f, %hf, Hi⟩
    sl_exec
    sl_step
    isplitl [Ha]; · iexact Ha
    iexists _; isplitr
    swap; · iexact Hi
    ipureintro
    exact adr_step L t n f hf
  · unfold inv1
    isplitl [Ha2]; · iexact Ha2
    iexists _; isplitr
    swap; · iexact Hi'
    ipureintro; exact fun j hj => absurd hj (Nat.not_lt_zero _)
  iintro %_ HI
  unfold inv1
  icases HI with ⟨Ha, %f, %hf, Hi⟩
  obtain rfl : f = aOf t (wL L) := funext fun j => hf j (lt_of_lt_of_eq (j 0).isLt (congrArg (16 * ·) trips1).symm)
  have hin : ∀ y, ((iV).view.read (Elt F) (aOf t (wL L)) y).toNat < 52224000 := adr_inb L ht
  sl_exec
  ihave Hg2 := (Entails.of_eq (show ((gV).view.loc (V d (cV L) (jV L)) ↦{fullShare} (gV).view.writes (Elt F) (gV).view.junk
        [⟨Rect.whole cc0_scratch3.ty.shape, tile_body.sl.gather0 L x t hin⟩] : sProp 𝕄)
      = (gV).view.loc (V d (cV L) (jV L)) ↦{fullShare} gOf x t (wL L) from
    congrArg (fun f : Buf (Elt F) ((gV).view.loc (V d (cV L) (jV L))) => ((gV).view.loc (V d (cV L) (jV L)) ↦{fullShare} f : sProp 𝕄))
      (gathered L x t ht hin))) $$ Hg'
  sl_for (inv2 d L x t k) $$ [Hg2 Hb2]
  case region =>
    intro n acc
    unfold inv2
    iintro ⟨%hacc, Hg, Hb⟩
    subst hacc
    sl_exec
    sl_step
    isplitr
    swap
    · isplitl [Hg] <;> iassumption
    ipureintro
    exact Prod.ext (congrArg₂ (k0_pay4 (accP x t k (wL L) n.val)) (gOf_group L x t n) (mOf_group L k n))
      (congrArg (k0_pay5 (accM k (wL L) n.val)) (mOf_group L k n))
  · unfold inv2
    isplitr; · ipureintro; rfl
    isplitl [Hg2] <;> iassumption
  iintro %acc HI
  unfold inv2
  icases HI with ⟨%hacc, Hg, Hb⟩
  subst hacc
  sl_exec
  sl_step
  ihave Ho2 := (Entails.of_eq (show ((oRowK L).view.loc (V d (cV L) (jV L)) ↦[(oRowK L).view.set]{fullShare}
        (oRowK L).view.writes (Elt F) o [⟨Rect.whole S2x16, tile_body.sl.dma4 d L x t k fs⟩] : sProp 𝕄)
      = oRowPts d (wL L) (partials x t k) from
    (pts_oRowK (F := F) d L _).trans (pointsTo_congr fun i hi => sums_written L x t k o fs _ trips2 i (by rw [set_oRowK]; exact hi)))) $$ Ho'
  isplitl [Ht' Hm' Hx' Ho2]
  · isplitl [Ht']; · iapply (Entails.of_eq (pts_tRowK (F := F) d L _)); iexact Ht'
    isplitl [Hm']; · iapply (Entails.of_eq (pts_mRowK (F := F) d L _)); iexact Hm'
    isplitl [Hx']; · iexact Hx'
    iexact Ho2
  isplitl [Ha Hb Hi Hg Hs' Hbufs]
  · isplitl [Ha]; · iexists _; iexact Ha
    isplitl [Hb]; · iexists _; iexact Hb
    isplitl [Hi]; · iexists _; iexact Hi
    isplitl [Hg]; · iexists _; iexact Hg
    isplitl [Hs']; · iexists _; iexact Hs'
    iexact Hbufs
  isplitl [HsemA HsemB HsemG HsemC Hsems]
  · isplitl [HsemA]; · iexact HsemA
    isplitl [HsemB]; · iexact HsemB
    isplitl [HsemG]; · iexact HsemG
    isplitl [HsemC]; · iexact HsemC
    iexact Hsems
  iexists _; isplitr
  swap; · iexact HO
  ipureintro; intro p hp
  iterate 4 rcases Finset.mem_insert.mp hp with hp | hp; · exact .inr (hp ▸ rfl)
  exact .inl hp

end Cert.KernelIdeal.Run

end
-- ==== Proof.KernelIdealTasks.lean ====
/-
  The SparseCore call: what the launch handshakes carry, the call's obligation for one tile, and how the flat arrays split
  into the 32 workers' blocks and shares and join again.
-/
module

public import proofs.«01_k».proof.Proof.KernelIdealTile

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v0_scv : Memref Cert.KernelIdeal.sig Kind.scVector Space.hbm Cert.KernelIdeal.S52224000 EltTy.f32)
local notation "tV" => (Memref.whole Cert.KernelIdeal.main_v1_scv : Memref Cert.KernelIdeal.sig Kind.scVector Space.hbm Cert.KernelIdeal.S52224 EltTy.i32)
local notation "mV" => (Memref.whole Cert.KernelIdeal.main_v2_scv : Memref Cert.KernelIdeal.sig Kind.scVector Space.hbm Cert.KernelIdeal.S52224 EltTy.f32)
local notation "oV" => (Memref.whole Cert.KernelIdeal.main_v3_scv : Memref Cert.KernelIdeal.sig Kind.scVector Space.hbm Cert.KernelIdeal.S32x2x16 EltTy.f32)
local notation "aV" => (Memref.whole Cert.KernelIdeal.cc0_scratch0 : Memref Cert.KernelIdeal.sig Kind.scVector Space.vmem Cert.KernelIdeal.S1632 EltTy.i32)
local notation "bV" => (Memref.whole Cert.KernelIdeal.cc0_scratch1 : Memref Cert.KernelIdeal.sig Kind.scVector Space.vmem Cert.KernelIdeal.S1632 EltTy.f32)
local notation "iV" => (Memref.whole Cert.KernelIdeal.cc0_scratch2 : Memref Cert.KernelIdeal.sig Kind.scVector Space.vmem Cert.KernelIdeal.S1632 EltTy.i32)
local notation "gV" => (Memref.whole Cert.KernelIdeal.cc0_scratch3 : Memref Cert.KernelIdeal.sig Kind.scVector Space.vmem Cert.KernelIdeal.S1632 EltTy.f32)
local notation "sV" => (Memref.whole Cert.KernelIdeal.cc0_scratch4 : Memref Cert.KernelIdeal.sig Kind.scVector Space.vmem Cert.KernelIdeal.S2x16 EltTy.f32)

/-! ## The workers -/

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The worker number of tile `s` of SparseCore `c`. -/
abbrev wk (c : Fin 2) (s : Fin 16) : Fin 32 := wL (coordsV c s)

/-- A SparseCore and a tile name a worker, and every worker once. -/
def wkEquiv : Fin 2 × Fin 16 ≃ Fin 32 := (Equiv.prodComm _ _).trans finProdFinEquiv

/-- The worker a SparseCore and a tile name. -/
theorem wkEquiv_apply (c : Fin 2) (s : Fin 16) : wkEquiv (c, s) = wk c s := by
  apply Fin.ext
  show c.val + 2 * s.val = 2 * s.val + c.val
  omega

/-- A conjunction over the workers is one over the SparseCores of one over their tiles. -/
theorem bigSep_workers (Φ : Fin 32 → sProp 𝕄) :
    bigSep Finset.univ Φ = bigSep Finset.univ fun c : Fin 2 => bigSep Finset.univ fun s : Fin 16 => Φ (wk c s) := by
  rw [bigSep_univ_equiv wkEquiv Φ, bigSep_univ_prod]
  refine bigSep_congr fun c _ => bigSep_congr fun s _ => ?_
  rw [wkEquiv_apply]

/-! ## The blocks split and join -/

theorem tRowSet_eq (w : Fin 32) : tRowSet w = (trow w).set := by
  show ((View.whole (main_v1_scv : Ref sig .scVector)).slice (trow w)).set = _
  rw [View.set_slice]; exact Finset.map_refl
theorem mRowSet_eq (w : Fin 32) : mRowSet w = (trow w).set := by
  show ((View.whole (main_v2_scv : Ref sig .scVector)).slice (trow w)).set = _
  rw [View.set_slice]; exact Finset.map_refl
theorem oRowSet_eq (w : Fin 32) : oRowSet w = (orow w).set := by
  show ((View.whole (main_v3_scv : Ref sig .scVector)).slice (orow w)).set = _
  rw [View.set_slice]; exact Finset.map_refl

/-- The flat targets are the workers' blocks of them. -/
theorem tPts_rows (d : Dev nD) (t : IVec S52224 32) :
    (tLoc d ↦{fullShare} (t : Buf (Elt F) (tLoc d)) : sProp 𝕄) = bigSep Finset.univ fun w : Fin 32 => tRowPts d w t := by
  rw [← pointsTo_biUnion Finset.univ (ℓ := tLoc d) tRowSet
      (fun i _ j _ h => by rw [tRowSet_eq, tRowSet_eq]; exact Rect.part_disjoint tdiv h),
    (Finset.biUnion_congr rfl fun i _ => tRowSet_eq i).trans (Rect.biUnion_part tdiv)]
  try rfl
/-- The flat mask is the workers' blocks of it. -/
theorem mPts_rows (d : Dev nD) (k : FVec F S52224 .f32) :
    (mLoc d ↦{fullShare} (k : Buf (Elt F) (mLoc d)) : sProp 𝕄) = bigSep Finset.univ fun w : Fin 32 => mRowPts d w k := by
  rw [← pointsTo_biUnion Finset.univ (ℓ := mLoc d) mRowSet
      (fun i _ j _ h => by rw [mRowSet_eq, mRowSet_eq]; exact Rect.part_disjoint tdiv h),
    (Finset.biUnion_congr rfl fun i _ => mRowSet_eq i).trans (Rect.biUnion_part tdiv)]
  try rfl
/-- The partial sums are the workers' blocks of them. -/
theorem oPts_rows (d : Dev nD) (o : FVec F S32x2x16 .f32) :
    (oLoc d ↦{fullShare} (o : Buf (Elt F) (oLoc d)) : sProp 𝕄) = bigSep Finset.univ fun w : Fin 32 => oRowPts d w o := by
  rw [← pointsTo_biUnion Finset.univ (ℓ := oLoc d) oRowSet
      (fun i _ j _ h => by rw [oRowSet_eq, oRowSet_eq]; exact Rect.part_disjoint odiv h),
    (Finset.biUnion_congr rfl fun i _ => oRowSet_eq i).trans (Rect.biUnion_part odiv)]
  try rfl
/-- The flat data is the workers' shares of it. -/
theorem xPts_shares (d : Dev nD) (x : FVec F S52224000 .f32) :
    (xLoc d ↦{fullShare} (x : Buf (Elt F) (xLoc d)) : sProp 𝕄) = bigSep Finset.univ fun w : Fin 32 => xShPts d w x :=
  pointsTo_piecesOf Finset.univ _ (by decide) fullShare

/-! ## What the handshakes carry -/

/-- What worker `w` holds: its blocks of the targets, the mask and the partial sums, and its share of the data. -/
abbrev wPts (d : Dev nD) (x : FVec F S52224000 .f32) (t : IVec S52224 32) (k : FVec F S52224 .f32) (o : FVec F S32x2x16 .f32) (w : Fin 32) : sProp 𝕄 :=
  iprop(tRowPts d w t ∗ mRowPts d w k ∗ xShPts d w x ∗ oRowPts d w o)

/-- The four arrays whole are what the workers of both SparseCores hold. -/
theorem arrays_workers (d : Dev nD) (x : FVec F S52224000 .f32) (t : IVec S52224 32) (k : FVec F S52224 .f32) (o : FVec F S32x2x16 .f32) :
    (iprop((tLoc d ↦{fullShare} (t : Buf (Elt F) (tLoc d))) ∗ (mLoc d ↦{fullShare} (k : Buf (Elt F) (mLoc d)))
        ∗ (xLoc d ↦{fullShare} (x : Buf (Elt F) (xLoc d))) ∗ (oLoc d ↦{fullShare} (o : Buf (Elt F) (oLoc d)))) : sProp 𝕄)
      = bigSep Finset.univ fun c : Fin 2 => bigSep Finset.univ fun s : Fin 16 => wPts d x t k o (wk c s) := by
  rw [← bigSep_workers (wPts d x t k o), bigSep_sep', bigSep_sep', bigSep_sep', ← tPts_rows, ← mPts_rows, ← xPts_shares, ← oPts_rows]

variable [FloatOps F]
variable (x : Dev nD → FVec F S52224000 .f32) (t : Dev nD → IVec S52224 32) (k : Dev nD → FVec F S52224 .f32) (o : Dev nD → FVec F S32x2x16 .f32)

/-- Each SparseCore takes what its sixteen workers hold, each tile what its worker holds; they bring it back with the
    partial sums at what the tiles compute. -/
def P : (K (F := F)).Pay (nD := nD) (Val := Elt F) (Name := ℕ) (U := UU) where
  st := fun q d c => match q with | 0 => bigSep Finset.univ fun s : Fin 16 => wPts d (x d) (t d) (k d) (o d) (wk c s)
  dn := fun q d c => match q with | 0 => bigSep Finset.univ fun s : Fin 16 => wPts d (x d) (t d) (k d) (partials (x d) (t d) (k d)) (wk c s)
  go := fun q d c i => match q with | 0 => wPts d (x d) (t d) (k d) (o d) (wk c i)
  td := fun q d c i => match q with | 0 => wPts d (x d) (t d) (k d) (partials (x d) (t d) (k d)) (wk c i)
  x := fun _ _ => iprop(emp)

instance P_storable : (P (F := F) x t k o).IsStorable where
  st q d c := match q with
    | 0 => (inferInstance : BI.Storable (upEmb : UEmb _ 𝕄) (bigSep Finset.univ fun s : Fin 16 => wPts d (x d) (t d) (k d) (o d) (wk c s)))
  dn q d c := match q with
    | 0 => (inferInstance : BI.Storable (upEmb : UEmb _ 𝕄) (bigSep Finset.univ fun s : Fin 16 => wPts d (x d) (t d) (k d) (partials (x d) (t d) (k d)) (wk c s)))
  go q d c i := match q with
    | 0 => (inferInstance : BI.Storable (upEmb : UEmb _ 𝕄) (wPts d (x d) (t d) (k d) (o d) (wk c i)))
  td q d c i := match q with
    | 0 => (inferInstance : BI.Storable (upEmb : UEmb _ 𝕄) (wPts d (x d) (t d) (k d) (partials (x d) (t d) (k d)) (wk c i)))

/-! ## The obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) tV (Memref.isWhole_whole _) mV (Memref.isWhole_whole _) oV (Memref.isWhole_whole _)
          aV (Memref.isWhole_whole _) bV (Memref.isWhole_whole _) iV (Memref.isWhole_whole _) gV (Memref.isWhole_whole _) sV (Memref.isWhole_whole _)
          cc0_scratch5 cc0_scoped0 cc0_scoped1 cc0_scoped2) ⟨⟩ c s := rfl

omit [FloatOps F] in
/-- A task that leaves only waits of its own leaves none that the call does not account for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The call's obligation for one tile: its task, from `tile_body`. -/
theorem tileObl (hF : (K (F := F)).Facts) (ht : ∀ d, Targets (t d)) : (K (F := F)).TileObl (D (F := F)) 𝒱 (P x t k o) v₀ 0 := by
  intro d c i O W hO _ _
  simp only [show (P x t k o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (x d) (t d) (k d) (o d) (ht d) hF O W hO).trans (wp_mono frame _ _ fun _ => obl_post)

/-- A SparseCore's dispatch hands its tiles what it was handed, and brings back what they do. -/
theorem vecSplit : (K (F := F)).VecSplit' (P x t k o) 0 := by
  intro d c
  show (bigSep Finset.univ fun s : Fin 16 => wPts d (x d) (t d) (k d) (o d) (wk c s)) ⊢ |={Set.univ}=> iprop(
      (bigSep Finset.univ fun s : Fin 16 => wPts d (x d) (t d) (k d) (o d) (wk c s))
      ∗ ((bigSep Finset.univ fun s : Fin 16 => wPts d (x d) (t d) (k d) (partials (x d) (t d) (k d)) (wk c s))
          -∗ (bigSep Finset.univ fun s : Fin 16 => wPts d (x d) (t d) (k d) (partials (x d) (t d) (k d)) (wk c s))))
  iintro H; imodintro
  isplitl [H]; · iexact H
  iintro H; iexact H

end Cert.KernelIdeal.Run

end
-- ==== Proof.KernelIdealFinish.lean ====
/-
  The TensorCore kernel that finishes the sum: its body run, its proof data and its region, entered from the partial sums
  and left with the quotient in the one-word array.
-/
module

public import proofs.«01_k».proof.Proof.KernelIdealSetup
public import Idealize.ShloMosaic.Lib.Pipeline.Regions

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Window BodyObligation cellOf)

variable {F : FTy → Type}

local notation "𝕄" => MT nD τ sig (HIx 1) (Elt F) ℕ UU ℕ

variable [FloatOps F]

/-! ## The body -/

/-- Memref `M`'s buffer on core `c`: its contents type. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

omit [FloatOps F] in
/-- One store of a whole shape, its offsets zero, leaves its payload. -/
theorem read_writes_zero {κ : Kind} {sp : Space} {S : Shape} {e : EltTy} (v : View sig κ sp S e) (f : v.ty.Contents (Elt F)) {off : Fin S.rank → ℕ}
    (h : off = fun _ => 0) (inb : ∀ a, off a + S.size a ≤ S.size a) (x : S.Idx → Elt F e) :
    v.read (Elt F) (v.writes (Elt F) f [⟨Rect.unit off S.size inb, x⟩]) = x := by
  subst h; exact View.read_writes_whole v f x

omit [FloatOps F] in
/-- One load of a whole shape, its offsets zero, reads the contents. -/
theorem readAt_zero {κ : Kind} {sp : Space} {S : Shape} {e : EltTy} (v : View sig κ sp S e) (f : v.ty.Contents (Elt F)) {off : Fin S.rank → ℕ}
    (h : off = fun _ => 0) (inb : ∀ a, off a + S.size a ≤ S.size a) :
    v.readAt (Elt F) (Rect.unit off S.size inb).toLoadRect f = v.read (Elt F) f :=
  (View.readAt_eq_ld v f _).trans (View.ld_unit_zero h inb _)

theorem zeros₂ : (![0, 0] : Fin 2 → ℕ) = fun _ => 0 := funext fun a => by fin_cases a <;> rfl
theorem zeros₃ : (![0, 0, 0] : Fin 3 → ℕ) = fun _ => 0 := funext fun a => by fin_cases a <;> rfl

/-- What the body's one store leaves, from what its load reads: the quotient. -/
theorem finish_stored (f0 : FVec F S32x2x16 .f32) (g : (stage1_1 0).view.ty.Contents (Elt F)) :
    (stage1_1 0).view.writes (Elt F) g [⟨Rect.unit ![0, 0] S1x1.size inb_S1x1_S1x1_0_0,
        k1_pay1 (View.readAt (Elt F) (stage1_0 0).view (Rect.unit ![0, 0, 0] S32x2x16.size inb_S32x2x16_S32x2x16_0_0_0).toLoadRect f0)⟩]
      = k1_pay1 f0 := by
  have hr : ∀ g, (stage1_1 0).view.read (Elt F) g = g := fun _ => rfl
  have hr0 : ∀ g, (stage1_0 0).view.read (Elt F) g = g := fun _ => rfl
  refine (hr _).symm.trans ((read_writes_zero (stage1_1 0).view g zeros₂ inb_S1x1_S1x1_0_0 _).trans (congrArg k1_pay1 ?_))
  exact (readAt_zero (stage1_0 0).view f0 zeros₃ inb_S32x2x16_S32x2x16_0_0_0).trans (hr0 _)

/-- The kernel's body loads the partial sums from one staging buffer and stores the quotient in the other. -/
theorem finish_run (c : Dev nD) (f0 : FVec F S32x2x16 .f32) (f1 : Bf (F := F) c (stage1_1 0)) (E : Set ℕ) (Q : PUnit → sProp 𝕄) :
    iprop(pt c (stage1_0 0) f0 ∗ pt c (stage1_1 0) f1 ∗ (iprop(pt c (stage1_0 0) f0 ∗ pt c (stage1_1 0) (k1_pay1 f0 : S1x1.Idx → F .f32)) -∗ Q ⟨⟩))
      ⊢ wp frame (wpE (defs₀ (F := F)) Variants.none c none) E (cc1__finish_body (stage1_0 0) (hstage1_0 0) (stage1_1 0) (hstage1_1 0)) Q := by
  simp only [cc1__finish_body_eq_skeleton]; unfold cc1__finish_body_skel
  iintro ⟨H0, H1, Hk⟩
  sl_exec!
  sl_step
  sl_unfold_words
  ihave H1' := (Entails.of_eq (congrArg (fun g => (pt c (stage1_1 0) g : sProp 𝕄)) (finish_stored f0 _))) $$ H1
  iapply Hk
  isplitl [H0]; · iexact H0
  iexact H1'

/-! ## The proof data -/

/-- The waits a core may have recorded when it enters the region: those of the one call. -/
def recordedAt (c : Dev nD) : Set (SemLoc sig × HIx 1) := {p | (K (F := F)).lev ((SparseCore.T c : Thread nD τ), p.1) p.2 ≤ 8}

/-- The region's proof data from partial sums `o` and any contents `v` of the one-word array: after the body the staged
    sums are as fetched and the staged word is the quotient; nothing is owed. -/
def dat (o : FVec F S32x2x16 .f32) (v : FVec F S1x1 .f32) (c : Dev nD) : Dat τ (Elt F) (HIx 1) ℕ UU ℕ cfg1 c where
  A w := match w with
    | ⟨0, _⟩ => o
    | ⟨1, _⟩ => v
  after w _ := match w with
    | ⟨0, _⟩ => o
    | ⟨1, _⟩ => k1_pay1 o
  Φ _ := Pipeline.scopedRest (Ix := HIx 1) (Name := ℕ) (U := UU) (Lvl := ℕ) (Val := Elt F) spec1 c
  q _ := fullShare
  owed _ := 0
  recorded _ := recordedAt (F := F) c

/-- The pipeline has no tables. -/
abbrev adm : (p : Fin 1) → (pcfgs (F := F) p).Adm := fun p => (cfgs p).toPCfg_adm

variable (o : Dev nD → FVec F S32x2x16 .f32) (v : Dev nD → FVec F S1x1 .f32)

/-- The proof data of every core. -/
def pdats : (p : Fin 1) → (c : Dev nD) → Dat τ (Elt F) (HIx 1) ℕ UU ℕ (Pipeline.pin (pcfgs (F := F)) adm p) c
  | ⟨0, _⟩ => fun c => dat (o c) (v c) c

/-- The fetched window's buffer holds the partial sums when the body runs. -/
theorem before_in (c : Dev nD) (g : (cfg1.win 0).block.Idx → Elt F (cfg1.win 0).elt) : (dat (o c) (v c) c).before 0 t1_0 g = o c := by
  unfold Dat.before; rw [if_pos (by decide)]
  have hz : (fun a => win1_0.index t1_0 a * main_v3.ty.shape.size a) = fun _ => 0 := funext fun a => by fin_cases a <;> decide
  exact Memref.read_access_unit_zero (Elt F) main_v3 hz (fun a => by rw [congrFun hz a]; simp) (o c)

/-- The body's obligation: the two staging buffers, from the fetched sums to the quotient. -/
theorem body_obligation (c : Dev nD) : BodyObligation (dat (o c) (v c) c) (defs₀ (F := F)) 𝒱₀ (none : HIx 1) Set.univ := fun t => by
  obtain rfl := fin_N1 t
  rw [bigSep_W1, bigSep_W1]
  simp only [owns_whole_eq]
  rw [show (dat (o c) (v c) c).Φ t1_0.castSucc = (dat (o c) (v c) c).Φ t1_0.succ from rfl,
    show (dat (o c) (v c) c).owesAt (none : HIx 1) t1_0.succ = (dat (o c) (v c) c).owesAt (none : HIx 1) t1_0.castSucc from rfl]
  iintro ⟨HΦ, Howes, ⟨%d0, %f0, %hf0, H0⟩, ⟨%d1, %f1, -, H1⟩⟩
  rw [before_in] at hf0
  subst hf0
  iapply (finish_run c (o c) f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [dat]
  iexists _; isplitr; swap; (· iexact H1); ipureintro; dsimp only [dat]

/-- The one write-back writes the quotient. -/
theorem flushed_eq (c : Dev nD) (t : Fin cfg1.N) :
    (dat (o c) (v c) c).flushed 1 t = ((cfg1.win 1).blk t).view.read (Elt F) (k1_pay1 (o c)) := by
  obtain rfl := fin_N1 t
  show (cfg1.win 1).cut (grid1.coords t1_0) ((dat (o c) (v c) c).after 1 t1_0) = _
  have hz : (fun a => win1_1.index t1_0 a * main_v4.ty.shape.size a) = fun _ => 0 := funext fun a => by fin_cases a <;> decide
  exact (Memref.read_access_unit_zero (Elt F) main_v4 hz (fun a => by rw [congrFun hz a]; simp) (k1_pay1 (o c))).symm

/-- The one-word array ends at the quotient. -/
theorem final_eq (c : Dev nD) : (dat (o c) (v c) c).arrAt 1 cfg1.N = k1_pay1 (o c) :=
  (dat (o c) (v c) c).arrAt_eq_of_cover 1 (k1_pay1 (o c)) (fun t _ => flushed_eq o v c t) fun i =>
    ⟨t1_0, flush1_1 t1_0, by
      show i ∈ ((View.whole main_v4).slice (win1_1.rect t1_0)).set
      rw [View.set_slice_whole, Rect.mem_set_unit]
      intro a
      have h0 : (i 0 : ℕ) < 1 := (i 0).isLt
      have h1 : (i 1 : ℕ) < 1 := (i 1).isLt
      match a with
      | ⟨0, _⟩ => show win1_1.index t1_0 0 * win1_1.size 0 ≤ (i 0 : ℕ) ∧ (i 0 : ℕ) < win1_1.index t1_0 0 * win1_1.size 0 + win1_1.xsize (grid1.coords t1_0) 0
                  rw [show win1_1.index t1_0 0 * win1_1.size 0 = 0 from by decide +kernel, show win1_1.xsize (grid1.coords t1_0) 0 = 1 from by decide +kernel]; omega
      | ⟨1, _⟩ => show win1_1.index t1_0 1 * win1_1.size 1 ≤ (i 1 : ℕ) ∧ (i 1 : ℕ) < win1_1.index t1_0 1 * win1_1.size 1 + win1_1.xsize (grid1.coords t1_0) 1
                  rw [show win1_1.index t1_0 1 * win1_1.size 1 = 0 from by decide +kernel, show win1_1.xsize (grid1.coords t1_0) 1 = 1 from by decide +kernel]; omega⟩

/-! ## The region -/

/-- The one-word array on device `d`. -/
abbrev qLoc (d : Dev nD) : Loc nD τ sig := (SparseCore.T d).loc main_v4

/-- The core owes nothing, and its waits are of the one call or of the launch. -/
abbrev idle (c : Dev nD) : sProp 𝕄 :=
  iprop(∃ W, ⌜(K (F := F)).WBelow (SparseCore.T c) W 8⌝ ∗ owes (SparseCore.T c : Thread nD τ) (0 : CellTallies nD τ sig (HIx 1)) W)

/-- The region's two arrays, one by one. -/
theorem arrays_two (c : Dev nD) (G : (w : Fin 2) → Buf (Elt F) ((cfg1.win w).arr.view.loc (c.tc : Thread nD τ))) :
    ((dat (o c) (v c) c).arrays G : sProp 𝕄) = iprop((oLoc c ↦{fullShare} (G 0 : Buf (Elt F) (oLoc c))) ∗ (qLoc c ↦{fullShare} (G 1 : Buf (Elt F) (qLoc c)))) := by
  unfold Dat.arrays
  rw [bigSep_W1, (arr_whole1 0).set_eq_univ, (arr_whole1 1).set_eq_univ, (dat (o c) (v c) c).share_full (fun _ => rfl), (dat (o c) (v c) c).share_full (fun _ => rfl)]

set_option backward.isDefEq.respectTransparency.types false in
/-- The region, entered from the partial sums and the one-word array, left with the quotient in the latter. -/
def reg : Pipeline.RegionSeg (pcfgs (F := F)) adm (pdats o v) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation o v c).loose
  hwaits := Pipeline.hwaits_of_owed_zero _ _ _ _ (K (F := F)).L (K (F := F)).lev 0 fun _ _ => rfl
  pre c := iprop((oLoc c ↦{fullShare} (o c : Buf (Elt F) (oLoc c))) ∗ (qLoc c ↦{fullShare} (v c : Buf (Elt F) (qLoc c))) ∗ idle c)
  post c := iprop((oLoc c ↦{fullShare} (o c : Buf (Elt F) (oLoc c))) ∗ (qLoc c ↦{fullShare} (k1_pay1 (o c) : Buf (Elt F) (qLoc c))) ∗ idle c)
  X _ := BI.emp
  Y _ := BI.emp
  Z _ := BI.emp
  hentry c := by
    rw [Pipeline.ownSems0_none]
    have ha := arrays_two o v c (dat (o c) (v c) c).A
    iintro ⟨⟨Ho, Hq, %W, %hW, HO⟩, -, -⟩
    imodintro
    isplitl [Ho Hq]
    · iapply (Entails.of_eq ha.symm); isplitl [Ho]; (· iexact Ho); iexact Hq
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr <;> iempintro
  hin c := by
    rw [show (pdats o v 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats o v 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have ha : ((pdats o v 0 c).arrays fun w => (pdats o v 0 c).arrAt w (Pipeline.pin (pcfgs (F := F)) adm 0).N : sProp 𝕄)
        = iprop((oLoc c ↦{fullShare} (o c : Buf (Elt F) (oLoc c))) ∗ (qLoc c ↦{fullShare} (k1_pay1 (o c) : Buf (Elt F) (qLoc c)))) := by
      refine (arrays_two o v c fun w => (dat (o c) (v c) c).arrAt w cfg1.N).trans ?_
      rw [show (dat (o c) (v c) c).arrAt 0 cfg1.N = o c from (dat (o c) (v c) c).arrAt_in 0 rfl _, final_eq o v c]
    iintro ⟨Ha, HO, -, -⟩
    imodintro
    ihave Ha' := (Entails.of_eq ha) $$ Ha
    icases Ha' with ⟨Ho, Hq⟩
    isplitl [Ho]; · iexact Ho
    isplitl [Hq]; · iexact Hq
    unfold Pipeline.Dat.owesAt Pipeline.owesWithin
    icases HO with ⟨%W, %hW, HO⟩; iexists W; isplitr; swap; · iexact HO
    ipureintro
    intro p hp
    rcases hW hp with h | ⟨w, s, h⟩
    · exact h
    · subst h; exact Nat.zero_le _

end Cert.KernelIdeal.Run

end
-- ==== Proof.KernelIdealMain.lean ====
/-
  The whole program's run: the three reshapes, the SparseCore call, the TensorCore region and the last reshape, from any
  launch memory whose targets are columns, to a memory with the arguments as they were, the result at the quotient of the
  tiles' sums, and every semaphore at zero.
-/
module

public import proofs.«01_k».proof.Proof.KernelIdealTasks
public import proofs.«01_k».proof.Proof.KernelIdealFinish

@[expose] public section

noncomputable section

namespace Cert.KernelIdeal.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.TcCoe
open Idealize.ShloMosaic.Pipeline (Dat Window BodyObligation cellOf)

variable {F : FTy → Type}

local notation "𝕄" => MT nD τ sig (HIx 1) (Elt F) ℕ UU ℕ

variable [FloatOps F]

/-! ## The launch element of the ghost state -/

/-- What the TensorCore of device `d` starts its region from: the pipeline's rounds. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The pipeline's staging cells are distinct. -/
theorem pinInj : Function.Injective (Pipeline.cellOf (nD := nD) (τ := τ) (Pipeline.pin (pcfgs (F := F)) adm)) := cellOf_inj

/-- The launch element: the handshakes' rounds, the pipeline's, no copy under way. -/
def u₀ : UU :=
  (initOf (K (F := F)).hsCells (K (F := F)).hsToks,
    (initOf (Pipeline.cells (Pipeline.pin (pcfgs (F := F)) adm) pinInj) (Pipeline.launchToks (Pipeline.pin (pcfgs (F := F)) adm) pinInj), 1))

variable (x : Dev nD → FVec F S52224000 .f32) (t : Dev nD → IVec S52224 32) (k : Dev nD → FVec F S52224 .f32) (o : Dev nD → FVec F S32x2x16 .f32)

omit [FloatOps F] in
theorem bigSep_emp' {I : Type} (s : Finset I) : (bigSep s fun _ => iprop(emp)) = (iprop(emp) : sProp 𝕄) := bigSep_emp_const s

omit [FloatOps F] in
/-- A conjunction over devices and the one pipeline is one over devices. -/
theorem bigSep_one (Φ : Dev nD → Fin 1 → sProp 𝕄) :
    (bigSep Finset.univ fun d => bigSep Finset.univ fun p => Φ d p) = bigSep Finset.univ fun d => Φ d 0 :=
  bigSep_congr fun _ _ => bigSep_univ_of_subsingleton (0 : Fin 1)

omit [FloatOps F] in
/-- The launch element's parts, each in the program logic's algebra. -/
theorem ownU_three (a : UH) (b : UR sig nD τ) :
    (ownU ((a, (b, 1)) : UU) : sProp 𝕄) ⊢ iprop(BI.own (EH a) ∗ BI.own (EP b)) := by
  refine (ownU_pair a ((b, 1) : UR sig nD τ × Counters)).trans ?_
  exact .rfl

/-- The launch element gives the handshakes' rounds and the pipeline's; the tiles start from nothing of their own. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P x t k o).x q thr) := by
  unfold u₀
  iintro Hu
  ihave H := (ownU_three (F := F) _ _) $$ Hu
  icases H with ⟨HH, HP⟩
  imod (Pipeline.fund_ghost (Pipeline.pin (pcfgs (F := F)) adm) EP pinInj) $$ HP with ⟨Hc, Ht⟩
  imodintro
  isplitl [HH]; · iexact HH
  isplitl [Hc Ht]
  · rw [bigSep_sep']
    isplitl [Hc]
    · rw [← bigSep_one fun d p => Pipeline.cellsGhost (Pipeline.pin (pcfgs (F := F)) adm) EP p d]; iexact Hc
    · rw [← bigSep_one fun d p => Pipeline.toksInit (Pipeline.pin (pcfgs (F := F)) adm) EP p d]; iexact Ht
  rw [show (bigSep Finset.univ fun thr : Thread nD τ => bigSep Finset.univ fun q : Fin 1 => (P (F := F) x t k o).x q thr) = bigSep Finset.univ fun _ => iprop(emp) from
    bigSep_congr fun _ _ => bigSep_univ_of_subsingleton (0 : Fin 1), bigSep_emp']
  iempintro

/-! ## The steps of @main -/

/-- A reshape of one buffer into another: the first kept, the second at the first's words in row-major order. -/
theorem reshape_step (d : Dev nD) (V : Valuation τ sig (Elt F)) {a b : Ref sig .tc} (hab : a ≠ b) (he : a.ty.elt = b.ty.elt) (hn : a.ty.shape.ShapeCasts b.ty.shape) (ha hb)
    (f : Buf (Elt F) ((SparseCore.T d).loc a)) (g : Buf (Elt F) ((SparseCore.T d).loc b)) (Q : PUnit → sProp 𝕄) :
    iprop(boundary (SparseCore.T d) ∗ ((SparseCore.T d).loc a ↦{fullShare} f) ∗ ((SparseCore.T d).loc b ↦{fullShare} g))
      ⊢ iprop((iprop(boundary (SparseCore.T d) ∗ ((SparseCore.T d).loc a ↦{fullShare} f)
            ∗ ((SparseCore.T d).loc b ↦{fullShare} (fun i => he ▸ shapeCast b.ty.shape f hn i : Buf (Elt F) ((SparseCore.T d).loc b)))) -∗ Q ⟨⟩)
        -∗ wp frame (wpE ((K (F := F)).defs (D (F := F))) 𝒱 (SparseCore.T d) none) Set.univ
            (hlo rfl (StableHlo.reshape a b he hn ha hb) (fun _ => .ret ⟨⟩)) Q) := by
  have hne : Proc.devRef (τ := τ) .tc a ≠ Proc.devRef .tc b := fun h => hab (Proc.devRef_injective _ h)
  let W : Valuation τ sig (Elt F) := Function.update (Function.update V (Proc.devRef .tc a) f) (Proc.devRef .tc b) g
  have hWa : W (Proc.devRef .tc a) = f := by
    show Function.update _ _ _ _ = _
    rw [Function.update_of_ne hne, Function.update_self]
  have hWb : W (Proc.devRef .tc b) = g := Function.update_self _ _ _
  have hpre : (bigSep (StableHlo.reshape (τ := τ) (Val := Elt F) a b he hn ha hb).bufs fun r => ((d, r) : Loc nD τ sig) ↦{fullShare} W r : sProp 𝕄)
      = iprop(((SparseCore.T d).loc a ↦{fullShare} f) ∗ ((SparseCore.T d).loc b ↦{fullShare} g)) := by
    rw [StableHlo.reshape_bufs, SparseCore.bigSep_insert' (by simpa using hne), bigSep_singleton, hWa, hWb]
  have hpost : (bigSep (StableHlo.reshape (τ := τ) (Val := Elt F) a b he hn ha hb).bufs fun r =>
        ((d, r) : Loc nD τ sig) ↦{fullShare} (StableHlo.reshape (τ := τ) (Val := Elt F) a b he hn ha hb).result W r : sProp 𝕄)
      = iprop(((SparseCore.T d).loc a ↦{fullShare} f)
          ∗ ((SparseCore.T d).loc b ↦{fullShare} (fun i => he ▸ shapeCast b.ty.shape f hn i : Buf (Elt F) ((SparseCore.T d).loc b)))) := by
    rw [StableHlo.reshape_bufs, SparseCore.bigSep_insert' (by simpa using hne), bigSep_singleton, StableHlo.reshape_result_ne _ _ _ _ _ _ _ hab,
      StableHlo.reshape_result, hWa]
  iintro ⟨Hb, Ha, Hr⟩ Hk
  iapply (wp_hlo 𝒱 (SparseCore.T d) none Set.univ (op := StableHlo.reshape a b he hn ha hb) (q := fun _ => fullShare) (F := W) (fun _ _ => rfl) rfl) $$ [Hb Ha Hr]
  · isplitl [Hb]; · iexact Hb
    iapply (Entails.of_eq hpre.symm)
    isplitl [Ha]; · iexact Ha
    iexact Hr
  iintro ⟨Hb, Hh⟩
  ihave Hh' := (Entails.of_eq hpost) $$ Hh
  icases Hh' with ⟨Ha, Hr⟩
  rw [wp_ret]; imodintro
  iapply Hk
  isplitl [Hb]; · iexact Hb
  isplitl [Ha]; · iexact Ha
  iexact Hr

/-- The region's call, below the SparseCore call's labels. -/
abbrev callP : Prog (TpuEff nD τ sig (Elt F) (ΛP (F := F)) (SparseCore.T (0 : Dev nD) : Thread nD τ).2) PUnit := Prog.lift (.customCall (Pipeline.entry 0) ())

/-- @main's call of the region is that call, its labels those of the whole program. -/
theorem call_eq : (Prog.lift (.customCall (SparseCore.inner (Pipeline.entry 0)) ()) : Prog (TpuEff nD τ sig (Elt F) (SparseCore.Sig (ΛP (F := F)) 1) .tc) PUnit)
    = SparseCore.liftProg (callP (F := F)) := rfl

/-- What the region's call ends with. -/
abbrev regPost (d : Dev nD) (a : FVec F S32x2x16 .f32) : sProp 𝕄 :=
  iprop(boundary (SparseCore.T d) ∗ ((oLoc d ↦{fullShare} (a : Buf (Elt F) (oLoc d))) ∗ (qLoc d ↦{fullShare} (k1_pay1 a : Buf (Elt F) (qLoc d))) ∗ idle d))

/-- The region's call below the SparseCore call's labels. -/
theorem region_run (d : Dev nD) (v : Dev nD → FVec F S1x1 .f32) (Q : PUnit → sProp 𝕄) :
    iprop((regPost d (o d) -∗ wp frame (wpE (D (F := F)) 𝒱 (SparseCore.T d) none) Set.univ (.ret ⟨⟩) Q)
        ∗ boundary (SparseCore.T d) ∗ (iprop((oLoc d ↦{fullShare} (o d : Buf (Elt F) (oLoc d))) ∗ (qLoc d ↦{fullShare} (v d : Buf (Elt F) (qLoc d))) ∗ idle d))
        ∗ levAts (K (F := F)).L (K (F := F)).lev ∗ G (F := F) d)
      ⊢ wp frame (wpE (D (F := F)) 𝒱 (SparseCore.T d) none) Set.univ (callP (F := F)) Q := by
  have h := Pipeline.RegionSeg.wp (pcfgs (F := F)) adm (pdats o v) (none : HIx 1) pinInj EP defs₀ 𝒱₀ (K (F := F)).L (K (F := F)).lev (reg o v) d none
    (fun _ h => nomatch h) (fun _ => .ret ⟨⟩) Q
  exact h

/-- The region's call in @main: from the partial sums and the one-word array to the quotient in the latter. -/
theorem region_step (d : Dev nD) (v : Dev nD → FVec F S1x1 .f32) (Q : PUnit → sProp 𝕄) :
    iprop((regPost d (o d) -∗ Q ⟨⟩)
        ∗ boundary (SparseCore.T d) ∗ (iprop((oLoc d ↦{fullShare} (o d : Buf (Elt F) (oLoc d))) ∗ (qLoc d ↦{fullShare} (v d : Buf (Elt F) (qLoc d))) ∗ idle d))
        ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  rw [call_eq]
  have hk : iprop(regPost d (o d) -∗ Q ⟨⟩) ⊢ iprop(regPost d (o d) -∗ wp frame (wpE (D (F := F)) 𝒱 (SparseCore.T d) none) Set.univ (.ret ⟨⟩) Q) := by
    iintro Hk H
    rw [wp_ret]; imodintro
    iapply Hk; iexact H
  exact ((sep_mono_left hk).trans (region_run o d v Q)).trans ((K (F := F)).wp_liftProg (D (F := F)) 𝒱 (SparseCore.T d) Set.univ none (callP (F := F)) Q)

/-! ## @main -/

variable (m : (ℓ : Loc nD τ sig) → Buf (Elt F) ℓ) (ρ : Dev nD → PrngReg)

/-- The data, flat. -/
abbrev xOf (d : Dev nD) : FVec F S52224000 .f32 := shapeCast S52224000 (m ((SparseCore.T d).loc main_arg0) : FVec F S1024x51x1000 .f32) shapeCasts_S1024x51x1000_S52224000
/-- The targets, flat. -/
abbrev tOfM (d : Dev nD) : IVec S52224 32 := shapeCast S52224 (m ((SparseCore.T d).loc main_arg1) : IVec S1024x51 32) shapeCasts_S1024x51_S52224
/-- The mask, flat. -/
abbrev kOf (d : Dev nD) : FVec F S52224 .f32 := shapeCast S52224 (m ((SparseCore.T d).loc main_arg2) : FVec F S1024x51 .f32) shapeCasts_S1024x51_S52224
/-- The partial sums' array as launched. -/
abbrev oOf (d : Dev nD) : FVec F S32x2x16 .f32 := m (oLoc d)
/-- The one-word array as launched. -/
abbrev qOf (d : Dev nD) : FVec F S1x1 .f32 := m (qLoc d)
/-- What the tiles leave. -/
abbrev sums (d : Dev nD) : FVec F S32x2x16 .f32 := partials (xOf m d) (tOfM m d) (kOf m d)
/-- What the program returns. -/
abbrev result (d : Dev nD) : FVec F S_ .f32 := shapeCast S_ (k1_pay1 (sums m d)) shapeCasts_S1x1_S_

omit [FloatOps F] in
/-- The TensorCore's unscoped buffers, one by one. -/
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ (xLoc d ↦{fullShare} W main_v0) ∗ (tLoc d ↦{fullShare} W main_v1) ∗ (mLoc d ↦{fullShare} W main_v2)
      ∗ (oLoc d ↦{fullShare} W main_v3) ∗ (qLoc d ↦{fullShare} W main_v4) ∗ ((SparseCore.T d).loc main_v5 ↦{fullShare} W main_v5)) := by
  unfold unscopedBufs
  rw [show (Finset.univ.filter fun b : Ref sig .tc => ¬ b.isScoped)
      = {main_arg0, main_arg1, main_arg2, main_v0, main_v1, main_v2, main_v3, main_v4, main_v5} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- The call takes the four arrays whole, -/
theorem st_eq (d : Dev nD) : (bigSep Finset.univ fun c : Fin ((K (F := F)).nCore 0) => (P x t k o).st 0 d c)
    = iprop((tLoc d ↦{fullShare} (t d : Buf (Elt F) (tLoc d))) ∗ (mLoc d ↦{fullShare} (k d : Buf (Elt F) (mLoc d)))
        ∗ (xLoc d ↦{fullShare} (x d : Buf (Elt F) (xLoc d))) ∗ (oLoc d ↦{fullShare} (o d : Buf (Elt F) (oLoc d)))) :=
  (arrays_workers d (x d) (t d) (k d) (o d)).symm
/-- and brings them back whole, the partial sums computed. -/
theorem dn_eq (d : Dev nD) : (bigSep Finset.univ fun c : Fin ((K (F := F)).nCore 0) => (P x t k o).dn 0 d c)
    = iprop((tLoc d ↦{fullShare} (t d : Buf (Elt F) (tLoc d))) ∗ (mLoc d ↦{fullShare} (k d : Buf (Elt F) (mLoc d)))
        ∗ (xLoc d ↦{fullShare} (x d : Buf (Elt F) (xLoc d))) ∗ (oLoc d ↦{fullShare} (partials (x d) (t d) (k d) : Buf (Elt F) (oLoc d)))) :=
  (arrays_workers d (x d) (t d) (k d) (partials (x d) (t d) (k d))).symm

/-- The TensorCore's handshake state after the call, apart from what it owes. -/
abbrev tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After its one call the TensorCore owes nothing. -/
theorem tcSt_one (d : Dev nD) : ((K (F := F)).tcSt EH d 1 : sProp 𝕄) = iprop(idle d ∗ tcRest d) := by
  unfold SparseCore.Cfg.tcSt
  rw [show (K (F := F)).Otc d 1 = 0 from by unfold SparseCore.Cfg.Otc; exact Finset.sum_eq_zero fun q _ => if_neg (by omega)]
  rfl

/-- What @main leaves to be read: the arguments as launched and the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v5 ↦{fullShare} (result m d : Buf (Elt F) ((SparseCore.T d).loc main_v5))))

set_option maxHeartbeats 1000000 in
/-- @main on device `d`'s TensorCore, from its buffers as launched: the arguments kept, the result left, everything else it
    was dealt handed back. -/
theorem hmain (κ : GSem nD τ sig → ℕ) (d : Dev nD) :
    iprop((K (F := F)).ctx EH (P (xOf m) (tOfM m) (kOf m) (oOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq, tcSt_one]
  simp only [main, wp_bind, wp_pure]
  iintro ⟨#Hctx, Hst, ⟨Hb, ⟨Ha0, Ha1, Ha2, Hx, Ht, Hm, Ho, Hq, Hr⟩, Hts, -⟩, HG⟩
  iapply (reshape_step d (fun b => m (d, b)) (a := main_arg0) (b := main_v0) (by decide) rfl shapeCasts_S1024x51x1000_S52224000 _ _ (m _) (m _)) $$ [Hb Ha0 Hx]
  · isplitl [Hb]; · iexact Hb
    isplitl [Ha0]; · iexact Ha0
    iexact Hx
  iintro ⟨Hb, Ha0, Hx⟩
  iapply (reshape_step d (fun b => m (d, b)) (a := main_arg1) (b := main_v1) (by decide) rfl shapeCasts_S1024x51_S52224 _ _ (m _) (m _)) $$ [Hb Ha1 Ht]
  · isplitl [Hb]; · iexact Hb
    isplitl [Ha1]; · iexact Ha1
    iexact Ht
  iintro ⟨Hb, Ha1, Ht⟩
  iapply (reshape_step d (fun b => m (d, b)) (a := main_arg2) (b := main_v2) (by decide) rfl shapeCasts_S1024x51_S52224 _ _ (m _) (m _)) $$ [Hb Ha2 Hm]
  · isplitl [Hb]; · iexact Hb
    isplitl [Ha2]; · iexact Ha2
    iexact Hm
  iintro ⟨Hb, Ha2, Hm⟩
  iapply ((K (F := F)).wp_run (D (F := F)) 𝒱 (EH := EH) (P := P (xOf m) (tOfM m) (kOf m) (oOf m)) κ d 0) $$ [Hst Hb Ha0 Ha1 Ha2 Hx Ht Hm Ho Hq Hr Hts HG]
  isplitr; · iexact Hctx
  isplitl [Hst]; · iexact Hst
  isplitl [Hx Ht Hm Ho]
  · rw [st_eq]
    isplitl [Ht]; · iexact Ht
    isplitl [Hm]; · iexact Hm
    isplitl [Hx]; · iexact Hx
    iexact Ho
  iintro ⟨Hst, Hdn⟩
  ihave Hdn' := (Entails.of_eq (dn_eq (xOf m) (tOfM m) (kOf m) (oOf m) d)) $$ Hdn
  icases Hdn' with ⟨-, -, -, Ho⟩
  have e1 : ((K (F := F)).tcSt EH d ((0 : Fin 1).val + 1) : sProp 𝕄) = iprop(idle d ∗ tcRest d) := tcSt_one d
  ihave Hst' := (Entails.of_eq e1) $$ Hst
  icases Hst' with ⟨Hidle, Hrest⟩
  ihave Hlv := ((K (F := F)).ctx_levAts κ) $$ Hctx
  iapply (region_step (sums m) d (qOf m))
  isplitr [Hb Ho Hq Hidle HG]
  swap
  · isplitl [Hb]; · iexact Hb
    isplitl [Ho Hq Hidle]
    · isplitl [Ho]; · iexact Ho
      isplitl [Hq]; · iexact Hq
      iexact Hidle
    isplitr; · iexact Hlv
    iexact HG
  iintro ⟨Hb, -, Hq, Hidle⟩
  iapply (reshape_step d (fun b => m (d, b)) (a := main_v4) (b := main_v5) (by decide) rfl shapeCasts_S1x1_S_ _ _ (k1_pay1 (sums m d)) (m _)) $$ [Hb Hq Hr]
  · isplitl [Hb]; · iexact Hb
    isplitl [Hq]; · iexact Hq
    iexact Hr
  iintro ⟨Hb, -, Hr⟩
  imodintro
  isplitl [Hidle Hrest]
  · isplitl [Hidle]; · iexact Hidle
    iexact Hrest
  isplitr [Hb Hts]
  · isplitl [Ha0]; · iexact Ha0
    isplitl [Ha1]; · iexact Ha1
    isplitl [Ha2]; · iexact Ha2
    iexact Hr
  isplitl [Hb]; · iexact Hb
  iexact Hts

/-- What is read of device `d`'s final state: the arguments as launched and the result. -/
def fq (d : Dev nD) (s' : Phys nD τ sig (Elt F)) : Prop :=
  s'.mem.mem ((SparseCore.T d).loc main_v5) = result m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)

omit [FloatOps F] in
/-- A buffer held whole reads as what it is held at, and stays held. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

/-- What @main leaves, read off the final state. -/
theorem hfin (d : Dev nD) (s' : Phys nD τ sig (Elt F)) : iprop(FIN m d ∗ SI s') ⊢ (⌜fq m d s'⌝ : sProp 𝕄) := by
  iintro ⟨⟨H0, H1, H2, Hr⟩, HSI⟩
  ihave H := (read_whole _ _ s') $$ [H0 HSI]
  · isplitl [H0] <;> iassumption
  icases H with ⟨%h0, HSI⟩
  ihave H := (read_whole _ _ s') $$ [H1 HSI]
  · isplitl [H1] <;> iassumption
  icases H with ⟨%h1, HSI⟩
  ihave H := (read_whole _ _ s') $$ [H2 HSI]
  · isplitl [H2] <;> iassumption
  icases H with ⟨%h2, HSI⟩
  ihave H := (read_whole _ _ s') $$ [Hr HSI]
  · isplitl [Hr] <;> iassumption
  icases H with ⟨%hr, HSI⟩
  ipureintro; exact ⟨hr, h0, h1, h2⟩

/-- What a run ends with: on each device the result and the arguments as launched; every semaphore at zero. -/
def QC : PUnit × MemSt nD τ sig (Elt F) → Prop := fun r =>
  (∀ c : Dev nD, r.2.mem ((SparseCore.T c).loc main_v5) = result m c
    ∧ r.2.mem ((SparseCore.T c).loc main_arg0) = m ((SparseCore.T c).loc main_arg0)
    ∧ r.2.mem ((SparseCore.T c).loc main_arg1) = m ((SparseCore.T c).loc main_arg1)
    ∧ r.2.mem ((SparseCore.T c).loc main_arg2) = m ((SparseCore.T c).loc main_arg2)) ∧ r.2.sem = fun _ => 0

/-- Every run from targets that are columns ends so. -/
theorem run_main [∀ e, Nonempty (Elt F e)] (ht : ∀ d, Targets (tOfM m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (xOf m) (tOfM m) (kOf m) (oOf m)) (A := ∅) facts v₀
    (fun q hq => match q with | 0 => nomatch hq)
    (fun q _ => match q with | 0 => tileObl (xOf m) (tOfM m) (kOf m) (oOf m) facts ht)
    (fun q _ => match q with | 0 => SparseCore.Cfg.VecSplit.of_plain (vecSplit (xOf m) (tOfM m) (kOf m) (oOf m)))
    m ρ main (G (F := F)) (FIN m) (u₀ (F := F)) (sep_elim_left.trans (hu₀ (xOf m) (tOfM m) (kOf m) (oOf m))) (hmain m ρ) (fq m) (hfin m) (QC m) (fun _ h hz => ⟨h, hz⟩)

end Cert.KernelIdeal.Run

end
-- ==== Proof.Loss.lean ====
/-
  The loss as one formula of the flat arrays, over the extended reals: the sum over the 52224 positions of the picked datum
  times the mask, the sum of the mask, and the negated quotient. Here are the laws both programs' values are brought to it by:
  reading a reshaped array by its row-major position, summing by blocks, and moving a negation out of a finite sum.
-/
module

public import Idealize.ShloMosaic.Lib.IdealHost
public import Idealize.ShloMosaic.Lib.Pipeline.Value
public import Idealize.ShloMosaic.PureOps.Ideal.Laws

@[expose] public section

noncomputable section

namespace Cert.Loss

open Idealize.ShloMosaic
open scoped BigOperators

/-! ## Arrays read by row-major position -/

/-- An array read at row-major position `n`, counted round at its length. -/
def flat {α : Type} {s : Shape} (hs : 0 < s.numel) (x : s.Idx → α) (n : ℕ) : α :=
  x (s.rowMajor.symm ⟨n % s.numel, Nat.mod_lt _ hs⟩)

/-- A reshaped array at an index is the array at the index's row-major position. -/
theorem shapeCast_flat {α : Type} {s t : Shape} (hs : 0 < s.numel) (x : s.Idx → α) (h : s.ShapeCasts t) (j : t.Idx) :
    shapeCast t x h j = flat hs x (t.rowMajor j).val := by
  unfold flat
  refine shapeCast_apply x h j _ ?_
  rw [Equiv.apply_symm_apply]
  exact Nat.mod_eq_of_lt (by have h1 := (t.rowMajor j).isLt; have h2 : t.numel = s.numel := h; omega)

/-! ## Sums by blocks -/

/-- A sum over `a` blocks of `b` positions, block by block. -/
theorem sum_blocks {M : Type} [AddCommMonoid M] (f : ℕ → M) (b : ℕ) :
    ∀ a : ℕ, ∑ p ∈ Finset.range (a * b), f p = ∑ i ∈ Finset.range a, ∑ j ∈ Finset.range b, f (b * i + j)
  | 0 => by simp
  | a + 1 => by
    rw [Finset.sum_range_succ, ← sum_blocks f b a, Nat.succ_mul, Finset.sum_range_add]
    simp only [Nat.mul_comm a b]

/-- The 52224 positions as thirty-two workers' sixteen lanes' hundred and two groups. -/
theorem sum_workers {M : Type} [AddCommMonoid M] (f : ℕ → M) :
    (∑ w : Fin 32, ∑ l : Fin 16, ∑ g ∈ Finset.range 102, f (1632 * w.val + 16 * g + l.val)) = ∑ p ∈ Finset.range 52224, f p := by
  rw [show (52224 : ℕ) = 32 * 1632 from rfl, sum_blocks f 1632 32, ← Fin.sum_univ_eq_sum_range (fun w => ∑ j ∈ Finset.range 1632, f (1632 * w + j)) 32]
  refine Finset.sum_congr rfl fun w _ => ?_
  rw [show (1632 : ℕ) = 102 * 16 from rfl, sum_blocks (fun q => f (102 * 16 * w.val + q)) 16 102, Finset.sum_comm]
  refine Finset.sum_congr rfl fun g _ => ?_
  rw [← Fin.sum_univ_eq_sum_range (fun l => f (102 * 16 * w.val + (16 * g + l))) 16]
  exact Finset.sum_congr rfl fun l _ => by rw [Nat.add_assoc]

/-! ## The formula -/

/-- The sum over the positions of picked datum times mask. -/
def num (A M : ℕ → EReal) : EReal := ∑ p ∈ Finset.range 52224, A p * M p
/-- The sum of the mask. -/
def den (M : ℕ → EReal) : EReal := ∑ p ∈ Finset.range 52224, M p
/-- The loss: the negated quotient. -/
def loss (A M : ℕ → EReal) : EReal := Ideal.div (0 - num A M) (den M)

/-- A finite sum of finite extended reals is finite, and the sum of the negations is its negation. -/
theorem sum_neg_finite {ι : Type} (s : Finset ι) (y : ι → EReal) (hy : ∀ i, ∃ r : ℝ, y i = (r : EReal)) :
    ∃ r : ℝ, (∑ i ∈ s, y i) = (r : EReal) ∧ (∑ i ∈ s, -(y i)) = ((-r : ℝ) : EReal) := by
  classical
  induction s using Finset.induction_on with
  | empty => exact ⟨0, by simp, by simp⟩
  | insert a s ha ih =>
    obtain ⟨r, h1, h2⟩ := ih
    obtain ⟨q, hq⟩ := hy a
    refine ⟨q + r, ?_, ?_⟩
    · rw [Finset.sum_insert ha, h1, hq, EReal.coe_add]
    · rw [Finset.sum_insert ha, h2, hq, neg_add, EReal.coe_add, EReal.coe_neg, EReal.coe_neg]

/-- An extended real that is neither infinity is a real. -/
theorem real_of_finite {x : EReal} (h : x ≠ ⊤ ∧ x ≠ ⊥) : ∃ r : ℝ, x = (r : EReal) := ⟨x.toReal, (EReal.coe_toReal h.1 h.2).symm⟩

/-- The plain formula — the mean of the negated data under the mask — is the loss, where data and mask are finite. -/
theorem loss_eq (A M : ℕ → EReal) (hA : ∀ p, A p ≠ ⊤ ∧ A p ≠ ⊥) (hM : ∀ p, M p ≠ ⊤ ∧ M p ≠ ⊥) :
    Ideal.div (0 + ∑ p ∈ Finset.range 52224, (-1 * A p) * M p) (0 + ∑ p ∈ Finset.range 52224, M p) = loss A M := by
  obtain ⟨r, h1, h2⟩ := sum_neg_finite (Finset.range 52224) (fun p => A p * M p) fun p => by
    obtain ⟨a, ha⟩ := real_of_finite (hA p)
    obtain ⟨b, hb⟩ := real_of_finite (hM p)
    exact ⟨a * b, by rw [ha, hb, EReal.coe_mul]⟩
  have e : (∑ p ∈ Finset.range 52224, (-1 * A p) * M p) = ∑ p ∈ Finset.range 52224, -(A p * M p) :=
    Finset.sum_congr rfl fun p _ => by rw [neg_mul, one_mul, neg_mul]
  unfold loss num den
  rw [e, h2, h1, zero_add, zero_add, zero_sub, EReal.coe_neg]

end Cert.Loss

end
-- ==== Proof.KernelIdealValue.lean ====
/-
  The kernel's result over the extended reals: the tiles' running sums are sums over their groups, the finish adds them over
  the workers and lanes, and the result is the loss of the flat arrays.
-/
module

public import proofs.«01_k».proof.Proof.KernelIdealMain
public import proofs.«01_k».proof.Proof.Loss
public import Idealize.ShloMosaic.Lib.Pointwise.Index

@[expose] public section

noncomputable section

namespace Cert.KernelIdeal.Run

open Cert.KernelIdeal Cert.KernelIdeal.Gen
open Idealize.ShloMosaic
open scoped BigOperators

/-! ## The tiles' sums -/

section Sums

variable (x : FVec Ideal S52224000 .f32) (t : IVec S52224 32) (k : FVec Ideal S52224 .f32)

/-- The accumulators start at zero, -/
theorem pay2_zero (l : S16.Idx) : (k0_pay2 (F := Ideal) l : EReal) = 0 := Ideal.ofBits_zero_f32
/-- the first adds the products, -/
theorem pay4_apply (a p q : FVec Ideal S16 .f32) (l : S16.Idx) : (k0_pay4 a p q l : EReal) = a l + p l * q l := by
  unfold k0_pay4 k0_pay3
  simp only [shapeCast_self]
  rfl
/-- the second the mask words. -/
theorem pay5_apply (a q : FVec Ideal S16 .f32) (l : S16.Idx) : (k0_pay5 a q l : EReal) = a l + q l := by
  unfold k0_pay5 k0_pay3
  simp only [shapeCast_self]
  rfl

/-- After `n` groups a lane of the first accumulator is the sum of its `n` products. -/
theorem accP_apply (w : ℕ) (l : S16.Idx) : ∀ n : ℕ, (accP x t k w n l : EReal)
    = ∑ g ∈ Finset.range n, (picked x t (1632 * w + 16 * g + (l 0).val) : EReal) * k (pos (1632 * w + 16 * g + (l 0).val))
  | 0 => pay2_zero l
  | n + 1 => by
    rw [Finset.sum_range_succ, ← accP_apply w l n]
    exact pay4_apply _ _ _ l

/-- After `n` groups a lane of the second accumulator is the sum of its `n` mask words. -/
theorem accM_apply (w : ℕ) (l : S16.Idx) : ∀ n : ℕ, (accM k w n l : EReal)
    = ∑ g ∈ Finset.range n, (k (pos (1632 * w + 16 * g + (l 0).val)) : EReal)
  | 0 => pay2_zero l
  | n + 1 => by
    rw [Finset.sum_range_succ, ← accM_apply w l n]
    exact pay5_apply _ _ l

end Sums

/-! ## The finish -/

section Finish

/-- Row `r` of every worker's pair of rows, summed over workers and lanes: what each of the finish's two reductions is. -/
theorem rows_sum (v : FVec Ideal S32x2x16 .f32) (off : Fin 3 → ℕ) (r : Fin 2) (hoff : off = ![0, r.val, 0]) (h : S32x2x16.Slices off S32x1x16) (j : S1.Idx) :
    (multiReduction (F := Ideal) .add [1, 2] S1 (shapeCast S1x32x16 (shapeCast S32x16 (extractStridedSlice S32x1x16 off v h) shapeCasts_S32x1x16_S32x16) shapeCasts_S32x16_S1x32x16)
        0x00000000#32 reduces_S1x32x16_S1 (.inl rfl) rfl j : EReal)
      = ∑ w : Fin 32, ∑ l : Fin 16, (v (ValueIdx.ix3 w r l) : EReal) := by
  subst hoff
  refine (Ideal.multiReduction_add_total _ _ reduces_S1x32x16_S1 (fun b => by match b with | ⟨0, _⟩ => rfl) (.inl rfl) rfl j).trans ?_
  rw [Idealize.ShloMosaic.sum_idx3, Fin.sum_univ_one]
  refine Finset.sum_congr rfl fun w _ => Finset.sum_congr rfl fun l _ => ?_
  refine (shapeCast_apply _ shapeCasts_S32x16_S1x32x16 _ (ValueIdx.ix2 w l) ?_).trans ?_
  · rw [Shape.rowMajor_val_two, Shape.rowMajor_val_three]
    show w.val * 16 + l.val = ((0 : ℕ) * 32 + w.val) * 16 + l.val
    omega
  refine (shapeCast_apply _ shapeCasts_S32x1x16_S32x16 _ (ValueIdx.ix3 w (0 : Fin 1) l) ?_).trans ?_
  · rw [Shape.rowMajor_val_two, Shape.rowMajor_val_three]
    show (w.val * 1 + 0) * 16 + l.val = w.val * 16 + l.val
    omega
  unfold extractStridedSlice
  refine congrArg v (funext fun a => Fin.ext ?_)
  match a with
  | ⟨0, _⟩ => exact Nat.zero_add _
  | ⟨1, _⟩ => exact Nat.add_zero _
  | ⟨2, _⟩ => exact Nat.zero_add _

/-- The finish's word: the negated quotient of the two rows' sums. -/
theorem pay1_apply (v : FVec Ideal S32x2x16 .f32) (j : S1x1.Idx) :
    (k1_pay1 (F := Ideal) v j : EReal)
      = Ideal.div (0 - ∑ w : Fin 32, ∑ l : Fin 16, (v (ValueIdx.ix3 w (0 : Fin 2) l) : EReal)) (∑ w : Fin 32, ∑ l : Fin 16, (v (ValueIdx.ix3 w (1 : Fin 2) l) : EReal)) := by
  have hz : (Ideal.ofBits .f32 0x00000000#32 : EReal) = 0 := Ideal.ofBits_zero_f32
  have h0 := fun i => rows_sum v ![0, 0, 0] 0 rfl slices_S32x2x16_o0_0_0_S32x1x16 i
  have h1 := fun i => rows_sum v ![0, 1, 0] 1 rfl slices_S32x2x16_o0_1_0_S32x1x16 i
  refine Eq.trans (b := Ideal.div (Ideal.ofBits .f32 0x00000000#32 - _) _) rfl ?_
  rw [hz]
  exact congrArg₂ (fun a b => Ideal.div (0 - a) b) (h0 _) (h1 _)

end Finish

/-! ## The result -/

section Result

variable (x : FVec Ideal S1024x51x1000 .f32) (t : IVec S1024x51 32) (k : FVec Ideal S1024x51 .f32)

theorem numel3 : 0 < S1024x51x1000.numel := by decide
theorem numel2 : 0 < S1024x51.numel := by decide

/-- Position `p`'s datum: the flat data at a thousand times `p` plus `p`'s target. -/
def datum (p : ℕ) : EReal := Loss.flat numel3 x (1000 * p + (Loss.flat numel2 t p).toNat)
/-- Position `p`'s mask word. -/
def weight (p : ℕ) : EReal := Loss.flat numel2 k p

/-- A flat array of 52224 words, reshaped from two axes, at position `p`. -/
theorem flat_pos {α : Type} (a : S1024x51.Idx → α) {p : ℕ} (hp : p < 52224) :
    shapeCast S52224 a shapeCasts_S1024x51_S52224 (pos p) = Loss.flat numel2 a p := by
  rw [Loss.shapeCast_flat numel2, Shape.rowMajor_val_one]
  exact congrArg _ (Nat.mod_eq_of_lt hp)

/-- The flat data, reshaped from three axes, at position `p`. -/
theorem flat_xpos {p : ℕ} (hp : p < 52224000) :
    shapeCast S52224000 x shapeCasts_S1024x51x1000_S52224000 (xpos p) = Loss.flat numel3 x p := by
  rw [Loss.shapeCast_flat numel3, Shape.rowMajor_val_one]
  exact congrArg _ (Nat.mod_eq_of_lt hp)

/-- The program's result, from targets that are columns, is the loss. -/
theorem value_eq (ht : ∀ j, (t j).toNat < 1000) :
    shapeCast S_ (k1_pay1 (F := Ideal) (partials (shapeCast S52224000 x shapeCasts_S1024x51x1000_S52224000) (shapeCast S52224 t shapeCasts_S1024x51_S52224)
        (shapeCast S52224 k shapeCasts_S1024x51_S52224))) shapeCasts_S1x1_S_
      = fun _ => Loss.loss (datum x t) (weight k) := by
  have hT : Targets (shapeCast S52224 t shapeCasts_S1024x51_S52224) := fun j => ht _
  funext j
  refine (pay1_apply _ _).trans ?_
  unfold Loss.loss Loss.num Loss.den
  have hw : ∀ (w : Fin 32) (l : Fin 16) (g : ℕ), g ∈ Finset.range 102 → 1632 * w.val + 16 * g + l.val < 52224 := fun w l g hg => by
    have := w.isLt; have := l.isLt; have := Finset.mem_range.mp hg; omega
  have hl : ∀ l : Fin 16, (lane l.val 0).val = l.val := fun l => Nat.mod_eq_of_lt l.isLt
  rw [← Loss.sum_workers, ← Loss.sum_workers]
  refine congrArg₂ (fun a b => Ideal.div (0 - a) b) ?_ ?_
  · refine Finset.sum_congr rfl fun w _ => Finset.sum_congr rfl fun l _ => ?_
    refine (accP_apply _ _ _ w.val (lane l.val) 102).trans (Finset.sum_congr rfl fun g hg => ?_)
    have hp := hw w l g hg
    rw [hl]
    refine congrArg₂ (fun a b : EReal => a * b) ?_ (flat_pos k hp)
    unfold picked datum
    rw [flat_xpos x (adr_lt hT hp), adr_toNat hT hp, flat_pos t hp]
  · refine Finset.sum_congr rfl fun w _ => Finset.sum_congr rfl fun l _ => ?_
    refine (accM_apply _ w.val (lane l.val) 102).trans (Finset.sum_congr rfl fun g hg => ?_)
    rw [hl]
    exact flat_pos k (hw w l g hg)

end Result

end Cert.KernelIdeal.Run

end
-- ==== Proof.ReferenceIdealValue.lean ====
/-
  The reference's result over the extended reals: from targets that are columns its index wrap changes nothing, its range test
  always passes and its gather picks each position's datum, so its result is the mean of the negated data under the mask.
-/
module

public import proofs.«01_k».proof.Proof.Gen.ReferenceIdeal.Run
public import proofs.«01_k».proof.Proof.Loss
public import Idealize.ShloMosaic.Lib.Affine
public import Idealize.ShloMosaic.Lib.ReduceAll
public import Idealize.ShloMosaic.Lib.Quiescent

@[expose] public section

noncomputable section

namespace Cert.ReferenceIdeal.Value

open Cert.ReferenceIdeal Cert.ReferenceIdeal.Gen
open Idealize.ShloMosaic Idealize.ShloMosaic.TcCoe Idealize.SL.Sem
open scoped BigOperators

/-! ## The index words -/

/-- The reference's wrap of the index words: a negative one moved up by a thousand. -/
abbrev wrap (T : IVec S52224x1 32) : IVec S52224x1 32 :=
  select (cmpi .slt T (broadcastInDim S52224x1 ![] bcast_S_S52224x1 (constantI S_ 32 0#32)))
    (addi T (broadcastInDim S52224x1 ![] bcast_S_S52224x1 (constantI S_ 32 1000#32))) T

/-- A word below a thousand read signed is itself. -/
theorem toInt_small {v : BitVec 32} (h : v.toNat < 1000) : v.toInt = (v.toNat : ℤ) :=
  BitVec.toInt_eq_toNat_of_lt (by omega)

/-- Words below a thousand are not moved by the wrap. -/
theorem wrap_eq (T : IVec S52224x1 32) (hT : ∀ j, (T j).toNat < 1000) : wrap T = T := by
  funext j
  show Scalar.select (IntOp.cmpi .slt (T j) 0#32) _ (T j) = T j
  have h : IntOp.cmpi .slt (T j) 0#32 = 0#1 := ValueIdx.eq_zero_of_ne_one fun h => by
    rw [IntOp.cmpi_slt, toInt_small (hT j), show (0#32 : BitVec 32).toInt = 0 from by decide] at h
    omega
  rw [h, ValueIdx.select_zero]

/-- The reference's range test: each index word at least zero and at most 999. -/
abbrev inside (I : IVec S52224x1x1 32) : IVec S52224x1 1 :=
  Host.reduce IntOp.andi (andi (cmpi .sge I (broadcastInDim S52224x1x1 ![] bcast_S_S52224x1x1 (constantI S_ 32 0#32)))
      (cmpi .sle I (broadcastInDim S52224x1x1 ![0, 1, 2] bcast_S1x1x1_S52224x1x1_0_1_2 (broadcastInDim S1x1x1 ![2] bcast_S1_S1x1x1_2 (constantI S1 32 999#32)))))
    (constantI S_ 1 1#1) reducesTo_S52224x1x1_S52224x1_d2 h_S_

/-- Words below a thousand pass it. -/
theorem inside_one (I : IVec S52224x1x1 32) (hI : ∀ j, (I j).toNat < 1000) (j : S52224x1.Idx) : inside I j = 1#1 := by
  refine Host.reduce_andi_one _ _ _ _ j rfl fun i => ?_
  show IntOp.andi (IntOp.cmpi .sge (I i) 0#32) (IntOp.cmpi .sle (I i) 999#32) = 1#1
  have h := hI i
  rw [IntOp.andi_eq_one, IntOp.cmpi_sge, IntOp.cmpi_sle, toInt_small h, show (0#32 : BitVec 32).toInt = 0 from by decide,
    show (999#32 : BitVec 32).toInt = 999 from by decide]
  omega

/-! ## The gather -/

/-- The gather at row `a`: that row's datum at the column its index word names, brought within the row. -/
theorem gather_row {α : Type} (x : S52224x1000.Idx → α) (I : IVec S52224x1x1 32) (a : Fin 52224) :
    Host.gather gather_S52224x1000_S52224x1x1_S52224x1_n_1_0_0_1_2_11 x I (ValueIdx.ix2 a (0 : Fin 1))
      = x (ValueIdx.ix2 a ⟨min (I (ValueIdx.ix3 a (0 : Fin 1) (0 : Fin 1))).toInt.toNat 999, by omega⟩) := by
  unfold Host.gather
  refine congrArg x (funext fun b => Fin.ext ?_)
  show GatherDims.start _ (ValueIdx.ix2 a 0) I b + GatherDims.batchCoord _ (ValueIdx.ix2 a 0) b + GatherDims.offCoord _ (ValueIdx.ix2 a 0) b = _
  have hb : ∀ h : 0 < S52224x1000.rank, (⟨0, h⟩ : Fin S52224x1000.rank)
      ∈ gather_S52224x1000_S52224x1x1_S52224x1_n_1_0_0_1_2_11.operandBatchingDims := fun _ => List.mem_singleton.mpr rfl
  have hc : ∀ h : 1 < S52224x1000.rank, (⟨1, h⟩ : Fin S52224x1000.rank)
      ∈ gather_S52224x1000_S52224x1x1_S52224x1_n_1_0_0_1_2_11.collapsedSliceDims := fun _ => List.mem_singleton.mpr rfl
  have hs : ∀ h : 1 < S52224x1000.rank, (⟨1, h⟩ : Fin S52224x1000.rank)
      ∈ gather_S52224x1000_S52224x1x1_S52224x1_n_1_0_0_1_2_11.startIndexMap := fun _ => List.mem_singleton.mpr rfl
  have hn : ∀ h : 1 < S52224x1000.rank, (⟨1, h⟩ : Fin S52224x1000.rank)
      ∉ gather_S52224x1000_S52224x1x1_S52224x1_n_1_0_0_1_2_11.operandBatchingDims := fun _ h =>
    absurd (congrArg Fin.val (List.mem_singleton.mp h)) (by show ¬ (1 = 0); decide)
  match b with
  | ⟨0, h⟩ =>
    rw [GatherDims.start_batching _ _ _ _ (hb h), GatherDims.offCoord_eq_zero _ _ _ (fun e => ((GatherDims.mem_sKept _ _).mp e).2 (hb h))]
    unfold GatherDims.batchCoord
    rw [dif_pos (hb h)]
    show 0 + a.val + 0 = a.val
    omega
  | ⟨1, h⟩ =>
    rw [GatherDims.batchCoord_eq_zero _ _ _ (hn h), GatherDims.offCoord_eq_zero _ _ _ (fun e => ((GatherDims.mem_sKept _ _).mp e).1 (hc h))]
    unfold GatherDims.start
    rw [dif_pos (hs h)]
    refine congrArg (fun i => min (I i).toInt.toNat 999) (funext fun c => Fin.ext ?_)
    match c with
    | ⟨0, _⟩ => rfl
    | ⟨1, _⟩ => rfl
    | ⟨2, _⟩ => rfl

/-! ## The result -/

section Result

variable (x : FVec Ideal S1024x51x1000 .f32) (t : IVec S1024x51 32) (k : FVec Ideal S1024x51 .f32)

theorem numel3 : 0 < S1024x51x1000.numel := by decide
theorem numel2 : 0 < S1024x51.numel := by decide

/-- The data, a row of a thousand per position. -/
abbrev rows : FVec Ideal S52224x1000 .f32 := shapeCast S52224x1000 x shapeCasts_S1024x51x1000_S52224x1000
/-- The targets, one per position. -/
abbrev cols : IVec S52224x1 32 := shapeCast S52224x1 t shapeCasts_S1024x51_S52224x1
/-- The mask, one word per position. -/
abbrev ones : FVec Ideal S52224x1 .f32 := shapeCast S52224x1 k shapeCasts_S1024x51_S52224x1
/-- The targets as the gather reads them. -/
abbrev index : IVec S52224x1x1 32 := shapeCast S52224x1x1 (wrap (cols t)) shapeCasts_S52224x1_S52224x1x1

/-- The reference's picked data. -/
abbrev taken : FVec Ideal S52224x1 .f32 :=
  select (inside (index t)) (Host.gather gather_S52224x1000_S52224x1x1_S52224x1_n_1_0_0_1_2_11 (rows x) (index t))
    (broadcastInDim S52224x1 ![] bcast_S_S52224x1 (constant S_ .f32 0x7FC00000#32))

/-- The reference's result as one term of its arguments. -/
abbrev value : FVec Ideal S_ .f32 :=
  Host.divf (Host.reduceAdd (mulf (mulf (broadcastInDim S52224x1 ![] bcast_S_S52224x1 (constant S_ .f32 0xBF800000#32)) (taken x t)) (ones k))
      (constant S_ .f32 0x00000000#32) reducesTo_S52224x1_S_d0_1 h_S_)
    (Host.reduceAdd (ones k) (constant S_ .f32 0x00000000#32) reducesTo_S52224x1_S_d0_1 h_S_)

/-- Position `p`'s target is the flat targets'. -/
theorem cols_apply (a : Fin 52224) : cols t (ValueIdx.ix2 a (0 : Fin 1)) = Loss.flat numel2 t a.val := by
  refine (Loss.shapeCast_flat numel2 t _ _).trans ?_
  rw [Shape.rowMajor_val_two]
  exact congrArg _ (by show a.val * 1 + 0 = a.val; omega)

/-- Position `p`'s mask word is the flat mask's. -/
theorem ones_apply (a : Fin 52224) : ones k (ValueIdx.ix2 a (0 : Fin 1)) = Loss.flat numel2 k a.val := by
  refine (Loss.shapeCast_flat numel2 k _ _).trans ?_
  rw [Shape.rowMajor_val_two]
  exact congrArg _ (by show a.val * 1 + 0 = a.val; omega)

/-- Position `p`'s picked datum is the flat data's at a thousand times `p` plus its target. -/
theorem taken_apply (ht : ∀ j, (t j).toNat < 1000) (a : Fin 52224) :
    taken x t (ValueIdx.ix2 a (0 : Fin 1)) = Loss.flat numel3 x (1000 * a.val + (Loss.flat numel2 t a.val).toNat) := by
  have hw : wrap (cols t) = cols t := wrap_eq _ fun _ => ht _
  have hi : index t (ValueIdx.ix3 a (0 : Fin 1) (0 : Fin 1)) = Loss.flat numel2 t a.val := by
    unfold index
    rw [hw]
    refine (shapeCast_apply _ _ _ (ValueIdx.ix2 a (0 : Fin 1)) ?_).trans (cols_apply t a)
    rw [Shape.rowMajor_val_two, Shape.rowMajor_val_three]
    show a.val * 1 + 0 = (a.val * 1 + 0) * 1 + 0
    omega
  have hI : ∀ j, (index t j).toNat < 1000 := fun j => by unfold index; rw [hw]; exact ht _
  have hv : (Loss.flat numel2 t a.val).toNat < 1000 := ht _
  show Scalar.select (inside (index t) (ValueIdx.ix2 a 0)) _ _ = _
  rw [inside_one _ hI, ValueIdx.select_one, gather_row]
  refine (Loss.shapeCast_flat numel3 x _ _).trans ?_
  rw [Shape.rowMajor_val_two]
  refine congrArg _ ?_
  show a.val * 1000 + min (index t (ValueIdx.ix3 a (0 : Fin 1) (0 : Fin 1))).toInt.toNat 999 = _
  rw [hi, toInt_small hv, Int.toNat_natCast]
  omega

/-- A sum over the positions is a sum over a range. -/
theorem sum_positions (f : S52224x1.Idx → EReal) (g : ℕ → EReal) (h : ∀ a : Fin 52224, f (ValueIdx.ix2 a (0 : Fin 1)) = g a.val) :
    ∑ i, f i = ∑ p ∈ Finset.range 52224, g p := by
  rw [ValueIdx.sum_idx2, ← Fin.sum_univ_eq_sum_range]
  exact Finset.sum_congr rfl fun a _ => (Fin.sum_univ_one _).trans (h a)

/-- The pattern of minus one. -/
theorem neg_one : (Ideal.ofBits .f32 0xBF800000#32 : EReal) = -1 := by
  simp [Ideal.ofBits, Ideal.ieee, -EReal.coe_mul]; norm_num

/-- The reference's result, from targets that are columns. -/
theorem value_eq (ht : ∀ j, (t j).toNat < 1000) :
    value x t k = fun _ => Ideal.div
      (0 + ∑ p ∈ Finset.range 52224, (-1 * (Loss.flat numel3 x (1000 * p + (Loss.flat numel2 t p).toNat) : EReal)) * (Loss.flat numel2 k p : EReal))
      (0 + ∑ p ∈ Finset.range 52224, (Loss.flat numel2 k p : EReal)) := by
  have hz : (Ideal.ofBits .f32 0x00000000#32 : EReal) = 0 := Ideal.ofBits_zero_f32
  funext j
  refine (ValueIdx.hostDivf_apply _ _ j).trans (congrArg₂ Ideal.div ?_ ?_)
  · refine (ValueIdx.hostReduceAdd_apply _ _ _ _ j).trans ((Ideal.hostReduceAdd_total _ (fun b => b.elim0) _ _ j).trans ?_)
    refine congrArg₂ (fun a b : EReal => a + b) hz (sum_positions _ _ fun a => ?_)
    show (Ideal.ofBits .f32 0xBF800000#32 * taken x t (ValueIdx.ix2 a 0) : EReal) * ones k (ValueIdx.ix2 a 0) = _
    rw [neg_one, taken_apply x t ht, ones_apply]
  · refine (ValueIdx.hostReduceAdd_apply _ _ _ _ j).trans ((Ideal.hostReduceAdd_total _ (fun b => b.elim0) _ _ j).trans ?_)
    exact congrArg₂ (fun a b : EReal => a + b) hz (sum_positions _ _ fun a => ones_apply k a)

end Result

/-! ## The run -/

/-- Every run ends with the result at that term, the arguments as they were and every semaphore at zero. -/
theorem run_quiescent (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v9)
          = value (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run defs _ _).mono (fun r h => ⟨h, sem_eq_zero_of_no_sems rfl r.2⟩) (run m ρ)

end Cert.ReferenceIdeal.Value

end
-- ==== Proof.Words.lean ====
/-
  What the two preconditions say of the words: every target is below a thousand; and, of the stronger one read over the
  extended reals, no datum and no mask word is infinite.
-/
module

public import proofs.«01_k».proof.Defs
public import proofs.«01_k».proof.Proof.Gen.Pre_in_range
public import proofs.«01_k».proof.Proof.Gen.Pre_in_range_and_finite
public import Idealize.ShloMosaic.Lib.Affine
public import Idealize.ShloMosaic.Lib.IdealHost
public import Idealize.ShloMosaic.Lib.Pipeline.Value

@[expose] public section

noncomputable section

namespace Cert.Words

open Idealize.ShloMosaic

/-- A word at least zero and below a thousand, both read signed, is below a thousand read unsigned. -/
theorem lt_thousand (v : BitVec 32) (h : IntOp.andi (IntOp.cmpi .sge v 0#32) (IntOp.cmpi .slt v 1000#32) = 1#1) : v.toNat < 1000 := by
  obtain ⟨h0, h1⟩ := IntOp.andi_eq_one.1 h
  rw [IntOp.cmpi_sge] at h0
  rw [IntOp.cmpi_slt] at h1
  simp only [BitVec.toInt_eq_toNat_cond, BitVec.toNat_ofNat] at h0 h1
  omega

/-- An extended real whose absolute value is below the pattern of `+∞` is neither infinity. -/
theorem finite_of_olt (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  refine ⟨?_, ?_⟩ <;> rintro hx <;> rw [hx] at h' <;> simp [Ideal.cmp] at h'

section Range
variable {F : FTy → Type} [FloatOps F]

open Cert.Pre_in_range in
/-- The first precondition: every target is below a thousand. -/
theorem of_in_range (x : FVec F S1024x51x1000 .f32) (t : IVec S1024x51 32) (k : FVec F S1024x51 .f32)
    (h : fn x t k = fun _ => 1#1) (j : S1024x51.Idx) : (t j).toNat < 1000 := by
  have e := congrFun h j
  simp only [fn, andi, cmpi, broadcastInDim, constantI] at e
  exact lt_thousand _ e

end Range

section Finite

open Cert.Pre_in_range_and_finite

/-- The index of the data at row `j`, column `c`. -/
abbrev at3 (j : S1024x51.Idx) (c : Fin 1000) : S1024x51x1000.Idx := ValueIdx.ix3 (j 0) (j 1) c

/-- The two-axis words, broadcast along the data's last axis, read at `(j, c)` are the words at `j`. -/
theorem bcast_at3 (v : IVec S1024x51 1) (h1 : S1024x51.BroadcastsInDim S1024x51x1 ![0, 1])
    (h2 : S1024x51x1.BroadcastsInDim S1024x51x1000 ![0, 1, 2]) (j : S1024x51.Idx) (c : Fin 1000) :
    broadcastInDim S1024x51x1000 ![0, 1, 2] h2 (broadcastInDim S1024x51x1 ![0, 1] h1 v) (at3 j c) = v j := by
  refine (broadcastInDim_apply _ h2 _ (at3 j c) (ValueIdx.ix3 (j 0) (j 1) (0 : Fin 1)) (fun a => match a with
    | ⟨0, _⟩ => rfl | ⟨1, _⟩ => rfl | ⟨2, _⟩ => rfl)).trans ?_
  exact broadcastInDim_apply _ h1 v _ j (fun a => match a with | ⟨0, _⟩ => rfl | ⟨1, _⟩ => rfl)

variable (x : FVec Ideal S1024x51x1000 .f32) (t : IVec S1024x51 32) (k : FVec Ideal S1024x51 .f32)

/-- The second precondition at `(j, c)`: the target below a thousand, the mask word and the datum finite. -/
theorem of_finite (h : fn x t k = fun _ => 1#1) (j : S1024x51.Idx) (c : Fin 1000) :
    (t j).toNat < 1000 ∧ ((k j : EReal) ≠ ⊤ ∧ (k j : EReal) ≠ ⊥) ∧ ((x (at3 j c) : EReal) ≠ ⊤ ∧ (x (at3 j c) : EReal) ≠ ⊥) := by
  have e := congrFun h (at3 j c)
  unfold fn at e
  dsimp only at e
  obtain ⟨hx, e⟩ := IntOp.andi_eq_one.1 e
  rw [bcast_at3] at e
  obtain ⟨ht, hk⟩ := IntOp.andi_eq_one.1 e
  exact ⟨lt_thousand _ ht, finite_of_olt _ hk, finite_of_olt _ hx⟩

/-- Every target is below a thousand. -/
theorem target_lt (h : fn x t k = fun _ => 1#1) (j : S1024x51.Idx) : (t j).toNat < 1000 := (of_finite x t k h j 0).1

/-- No mask word is infinite. -/
theorem mask_finite (h : fn x t k = fun _ => 1#1) (j : S1024x51.Idx) : (k j : EReal) ≠ ⊤ ∧ (k j : EReal) ≠ ⊥ := (of_finite x t k h j 0).2.1

/-- No datum is infinite. -/
theorem data_finite (h : fn x t k = fun _ => 1#1) (i : S1024x51x1000.Idx) : (x i : EReal) ≠ ⊤ ∧ (x i : EReal) ≠ ⊥ := by
  have e : i = at3 (ValueIdx.ix2 (i 0) (i 1)) (i 2) := ValueIdx.eq_ix3 i
  rw [e]; exact (of_finite x t k h _ (i 2)).2.2

end Finite

end Cert.Words

end
-- ==== Proof.lean ====
/-
  The claims: each program runs to quiescence with its arguments as they were, and over the extended reals the kernel and the
  reference end with the same loss. The kernel's run is Proof/KernelMain.lean (and its copy at the ideal text), its value
  Proof/KernelIdealValue.lean, the reference's Proof/ReferenceIdealValue.lean, and the two values meet in Proof/Loss.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_in_range_and_finite
public import proofs.«01_k».proof.Proof.KernelMain
public import proofs.«01_k».proof.Proof.KernelIdealMain
public import proofs.«01_k».proof.Proof.KernelIdealValue
public import proofs.«01_k».proof.Proof.ReferenceIdealValue
public import proofs.«01_k».proof.Proof.Words

@[expose] public section

noncomputable section

namespace Cert.Proof

open Idealize.ShloMosaic Idealize.SL.Sem

/-- The kernel's frame, over the float words. -/
theorem frame_kernel : Cert.quiescent_Kernel (hKernel := Cert.Kernel.Gen.facts) (hPre_in_range := Cert.Pre_in_range.Gen.facts) := fun m g hpre =>
  (θ_run (Cert.Kernel.defs (F := Bits)) _ _).mono (fun _ h => ⟨fun c => ⟨(h.1 c).2.1, (h.1 c).2.2.1, (h.1 c).2.2.2⟩, h.2⟩)
    (Cert.Kernel.Run.run_main m g fun d _ => Cert.Words.of_in_range _ _ _ (hpre d) _)

/-- The ideal text's run, from targets that are columns on every device: the result left and the frame. -/
theorem run_ideal (m : (ℓ : Loc Cert.KernelIdeal.nD Cert.KernelIdeal.τ Cert.KernelIdeal.sig) → Buf (Elt Ideal) ℓ) (g : Dev Cert.KernelIdeal.nD → PrngReg)
    (ht : ∀ d, Cert.KernelIdeal.Run.Targets (Cert.KernelIdeal.Run.tOfM m d)) :
    θ_run (Cert.KernelIdeal.defs (F := Ideal)) (Cert.KernelIdeal.threads (F := Ideal)) ⟨m, fun _ => 0, g⟩ (Cert.KernelIdeal.Run.QC m) :=
  Cert.KernelIdeal.Run.run_main m g ht

/-- The ideal text's frame. -/
theorem frame_ideal : Cert.quiescent_KernelIdeal (hKernelIdeal := Cert.KernelIdeal.Gen.facts) (hPre_in_range := Cert.Pre_in_range.Gen.facts) := fun m g hpre =>
  (θ_run (Cert.KernelIdeal.defs (F := Ideal)) _ _).mono (fun _ h => ⟨fun c => ⟨(h.1 c).2.1, (h.1 c).2.2.1, (h.1 c).2.2.2⟩, h.2⟩)
    (run_ideal m g fun d _ => Cert.Words.of_in_range _ _ _ (hpre d) _)

/-- The same from finite data and mask. -/
theorem frame_ideal_finite : Cert.quiescent_KernelIdeal_pre_in_range_and_finite (hKernelIdeal := Cert.KernelIdeal.Gen.facts)
    (hPre_in_range_and_finite := Cert.Pre_in_range_and_finite.Gen.facts) := fun m g hpre =>
  (θ_run (Cert.KernelIdeal.defs (F := Ideal)) _ _).mono (fun _ h => ⟨fun c => ⟨(h.1 c).2.1, (h.1 c).2.2.1, (h.1 c).2.2.2⟩, h.2⟩)
    (run_ideal m g fun d _ => Cert.Words.target_lt _ _ _ (hpre d) _)

/-- The reference's frame. -/
theorem frame_reference : Cert.quiescent_ReferenceIdeal (hReferenceIdeal := Cert.ReferenceIdeal.Gen.facts) := fun m g _ =>
  (θ_run (Cert.ReferenceIdeal.defs (F := Ideal)) _ _).mono (fun _ h => ⟨fun c => (h.1 c).2, h.2⟩) (Cert.ReferenceIdeal.Value.run_quiescent m g)

/-- The two values agree at arguments the precondition admits. -/
theorem value_agrees (x : FVec Ideal Cert.KernelIdeal.S1024x51x1000 .f32) (t : IVec Cert.KernelIdeal.S1024x51 32) (k : FVec Ideal Cert.KernelIdeal.S1024x51 .f32)
    (h : Cert.Pre_in_range_and_finite.fn x t k = fun _ => 1#1) :
    Cert.ReferenceIdeal.Value.value x t k = fun _ => Cert.Loss.loss (Cert.KernelIdeal.Run.datum x t) (Cert.KernelIdeal.Run.weight k) :=
  (Cert.ReferenceIdeal.Value.value_eq x t k (Cert.Words.target_lt x t k h)).trans
    (funext fun _ => Cert.Loss.loss_eq (Cert.KernelIdeal.Run.datum x t) (Cert.KernelIdeal.Run.weight k)
      (fun _ => Cert.Words.data_finite x t k h _) fun _ => Cert.Words.mask_finite x t k h _)

/-- Over the extended reals the kernel and the reference end with the same loss. -/
theorem same_loss : Cert.algebraic_KernelIdeal_ReferenceIdeal_pre_in_range_and_finite (hKernelIdeal := Cert.KernelIdeal.Gen.facts)
    (hReferenceIdeal := Cert.ReferenceIdeal.Gen.facts) (hPre_in_range_and_finite := Cert.Pre_in_range_and_finite.Gen.facts) := fun m g m' g' hpre hm => by
  refine ⟨fun c => Cert.KernelIdeal.Run.result m c,
    (θ_run (Cert.KernelIdeal.defs (F := Ideal)) _ _).mono (fun _ h => h.1) (run_ideal m g fun d _ => Cert.Words.target_lt _ _ _ (hpre d) _),
    (θ_run (Cert.ReferenceIdeal.defs (F := Ideal)) _ _).mono (fun _ h c => ⟨(h.1 c).1.trans ?_, (h.1 c).2⟩) (Cert.ReferenceIdeal.Value.run_quiescent m' g')⟩
  obtain ⟨h0, h1, h2⟩ := hm c
  rw [h0, h1, h2]
  exact (value_agrees _ _ _ (hpre c)).trans (Cert.KernelIdeal.Run.value_eq _ _ _ (Cert.Words.target_lt _ _ _ (hpre c))).symm

theorem claim : Cert.Claim := ⟨Cert.Kernel.Gen.facts, Cert.KernelIdeal.Gen.facts, Cert.ReferenceIdeal.Gen.facts, Cert.Pre_in_range.Gen.facts, Cert.Pre_in_range_and_finite.Gen.facts,
  frame_kernel, frame_ideal, frame_ideal_finite, frame_reference, fun m g _ => frame_reference m g trivial, trivial, same_loss⟩

end Cert.Proof

end
